-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v352)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v352) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v398) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4097x9 : Shape := ⟨2, ![4097, 9]⟩
abbrev S4097 : Shape := ⟨1, ![4097]⟩
abbrev S4096x3 : Shape := ⟨2, ![4096, 3]⟩
abbrev S4096 : Shape := ⟨1, ![4096]⟩
abbrev S_ : Shape := ⟨0, ![]⟩
abbrev S4097x1 : Shape := ⟨2, ![4097, 1]⟩
abbrev S4097x2 : Shape := ⟨2, ![4097, 2]⟩
abbrev S4097x3 : Shape := ⟨2, ![4097, 3]⟩
abbrev S4097x1x3 : Shape := ⟨3, ![4097, 1, 3]⟩
abbrev S4097x3x3 : Shape := ⟨3, ![4097, 3, 3]⟩
abbrev S2048x3x3 : Shape := ⟨3, ![2048, 3, 3]⟩
abbrev S2048x3 : Shape := ⟨2, ![2048, 3]⟩
abbrev S1024x3x3 : Shape := ⟨3, ![1024, 3, 3]⟩
abbrev S1024x3 : Shape := ⟨2, ![1024, 3]⟩
abbrev S512x3x3 : Shape := ⟨3, ![512, 3, 3]⟩
abbrev S512x3 : Shape := ⟨2, ![512, 3]⟩
abbrev S256x3x3 : Shape := ⟨3, ![256, 3, 3]⟩
abbrev S256x3 : Shape := ⟨2, ![256, 3]⟩
abbrev S128x3x3 : Shape := ⟨3, ![128, 3, 3]⟩
abbrev S128x3 : Shape := ⟨2, ![128, 3]⟩
abbrev S64x3x3 : Shape := ⟨3, ![64, 3, 3]⟩
abbrev S64x3 : Shape := ⟨2, ![64, 3]⟩
abbrev S32x3x3 : Shape := ⟨3, ![32, 3, 3]⟩
abbrev S32x3 : Shape := ⟨2, ![32, 3]⟩
abbrev S16x3x3 : Shape := ⟨3, ![16, 3, 3]⟩
abbrev S16x3 : Shape := ⟨2, ![16, 3]⟩
abbrev S8x3x3 : Shape := ⟨3, ![8, 3, 3]⟩
abbrev S8x3 : Shape := ⟨2, ![8, 3]⟩
abbrev S4x3x3 : Shape := ⟨3, ![4, 3, 3]⟩
abbrev S4x3 : Shape := ⟨2, ![4, 3]⟩
abbrev S2x3x3 : Shape := ⟨3, ![2, 3, 3]⟩
abbrev S2x3 : Shape := ⟨2, ![2, 3]⟩
abbrev S1x3x3 : Shape := ⟨3, ![1, 3, 3]⟩
abbrev S1x3 : Shape := ⟨2, ![1, 3]⟩
abbrev S0x3x3 : Shape := ⟨3, ![0, 3, 3]⟩
abbrev S0x3 : Shape := ⟨2, ![0, 3]⟩
abbrev S3x3x3 : Shape := ⟨3, ![3, 3, 3]⟩
abbrev S3x3 : Shape := ⟨2, ![3, 3]⟩
abbrev S7x3x3 : Shape := ⟨3, ![7, 3, 3]⟩
abbrev S7x3 : Shape := ⟨2, ![7, 3]⟩
abbrev S15x3x3 : Shape := ⟨3, ![15, 3, 3]⟩
abbrev S15x3 : Shape := ⟨2, ![15, 3]⟩
abbrev S31x3x3 : Shape := ⟨3, ![31, 3, 3]⟩
abbrev S31x3 : Shape := ⟨2, ![31, 3]⟩
abbrev S63x3x3 : Shape := ⟨3, ![63, 3, 3]⟩
abbrev S63x3 : Shape := ⟨2, ![63, 3]⟩
abbrev S127x3x3 : Shape := ⟨3, ![127, 3, 3]⟩
abbrev S127x3 : Shape := ⟨2, ![127, 3]⟩
abbrev S255x3x3 : Shape := ⟨3, ![255, 3, 3]⟩
abbrev S255x3 : Shape := ⟨2, ![255, 3]⟩
abbrev S511x3x3 : Shape := ⟨3, ![511, 3, 3]⟩
abbrev S511x3 : Shape := ⟨2, ![511, 3]⟩
abbrev S1023x3x3 : Shape := ⟨3, ![1023, 3, 3]⟩
abbrev S1023x3 : Shape := ⟨2, ![1023, 3]⟩
abbrev S2049x3x3 : Shape := ⟨3, ![2049, 3, 3]⟩
abbrev S2049x3 : Shape := ⟨2, ![2049, 3]⟩
abbrev S4096x1 : Shape := ⟨2, ![4096, 1]⟩
abbrev S3x4096 : Shape := ⟨2, ![3, 4096]⟩
abbrev S3x32x128 : Shape := ⟨3, ![3, 32, 128]⟩
abbrev S32x3x128 : Shape := ⟨3, ![32, 3, 128]⟩
abbrev S32x1x128 : Shape := ⟨3, ![32, 1, 128]⟩
abbrev S1x1 : Shape := ⟨2, ![1, 1]⟩
abbrev S512x1 : Shape := ⟨2, ![512, 1]⟩
abbrev S1x3x128 : Shape := ⟨3, ![1, 3, 128]⟩
abbrev S1x1x128 : Shape := ⟨3, ![1, 1, 128]⟩
abbrev S3x128 : Shape := ⟨2, ![3, 128]⟩
abbrev S1x128 : Shape := ⟨2, ![1, 128]⟩
abbrev S512x128 : Shape := ⟨2, ![512, 128]⟩
abbrev S1x512x128 : Shape := ⟨3, ![1, 512, 128]⟩
abbrev S1 : Shape := ⟨1, ![1]⟩
abbrev S1x1x1 : Shape := ⟨3, ![1, 1, 1]⟩

abbrev nBuf : Space → Nat
  | .hbm => 416
  | .vmem => 8
  | .smem => 1
  | _ => 0

abbrev hbmTy0_0 (i : Nat) : BufTy := match i % 128 with
  | 0 => ⟨S4097x9, .f32⟩
  | 1 => ⟨S4097, .f32⟩
  | 2 => ⟨S4096x3, .f32⟩
  | 3 => ⟨S4096, .f32⟩
  | 4 => ⟨S4097, .i32⟩
  | 5 => ⟨S4097, .i32⟩
  | 6 => ⟨S4097, .i32⟩
  | 7 => ⟨S_, .i32⟩
  | 8 => ⟨S4097, .i32⟩
  | 9 => ⟨S4097, .i1⟩
  | 10 => ⟨S_, .i32⟩
  | 11 => ⟨S4097, .i32⟩
  | 12 => ⟨S4097, .i32⟩
  | 13 => ⟨S4097, .i32⟩
  | 14 => ⟨S_, .i32⟩
  | 15 => ⟨S4097, .i32⟩
  | 16 => ⟨S4097, .i1⟩
  | 17 => ⟨S_, .i32⟩
  | 18 => ⟨S4097, .i32⟩
  | 19 => ⟨S4097, .i32⟩
  | 20 => ⟨S4097, .i32⟩
  | 21 => ⟨S4097x1, .i32⟩
  | 22 => ⟨S4097x1, .i32⟩
  | 23 => ⟨S4097x2, .i32⟩
  | 24 => ⟨S4097x9, .f32⟩
  | 25 => ⟨S4097x1, .f32⟩
  | 26 => ⟨S4097, .f32⟩
  | 27 => ⟨S4097x1, .f32⟩
  | 28 => ⟨S4097, .f32⟩
  | 29 => ⟨S4097x1, .f32⟩
  | 30 => ⟨S4097, .f32⟩
  | 31 => ⟨S_, .f32⟩
  | 32 => ⟨S4097, .f32⟩
  | 33 => ⟨S4097, .f32⟩
  | 34 => ⟨S4097, .f32⟩
  | 35 => ⟨S4097, .f32⟩
  | 36 => ⟨S4097, .f32⟩
  | 37 => ⟨S4097, .f32⟩
  | 38 => ⟨S_, .f32⟩
  | 39 => ⟨S4097, .f32⟩
  | 40 => ⟨S4097, .f32⟩
  | 41 => ⟨S4097, .f32⟩
  | 42 => ⟨S4097, .f32⟩
  | 43 => ⟨S4097x1, .f32⟩
  | 44 => ⟨S4097x1, .f32⟩
  | 45 => ⟨S4097x1, .f32⟩
  | 46 => ⟨S4097x3, .f32⟩
  | 47 => ⟨S4097, .f32⟩
  | 48 => ⟨S4097, .f32⟩
  | 49 => ⟨S4097, .f32⟩
  | 50 => ⟨S4097x1, .f32⟩
  | 51 => ⟨S4097x1, .f32⟩
  | 52 => ⟨S4097x1, .f32⟩
  | 53 => ⟨S4097x3, .f32⟩
  | 54 => ⟨S4097x1, .f32⟩
  | 55 => ⟨S4097x1, .f32⟩
  | 56 => ⟨S4097x1, .f32⟩
  | 57 => ⟨S4097x3, .f32⟩
  | 58 => ⟨S4097x1x3, .f32⟩
  | 59 => ⟨S4097x1x3, .f32⟩
  | 60 => ⟨S4097x1x3, .f32⟩
  | 61 => ⟨S4097x3x3, .f32⟩
  | 62 => ⟨S4097, .f32⟩
  | 63 => ⟨S4097, .f32⟩
  | 64 => ⟨S4097x1, .f32⟩
  | 65 => ⟨S4097x1, .f32⟩
  | 66 => ⟨S4097x1, .f32⟩
  | 67 => ⟨S4097x3, .f32⟩
  | 68 => ⟨S2048x3x3, .f32⟩
  | 69 => ⟨S2048x3, .f32⟩
  | 70 => ⟨S2048x3x3, .f32⟩
  | 71 => ⟨S2048x3, .f32⟩
  | 72 => ⟨S2048x3x3, .f32⟩
  | 73 => ⟨S2048x3, .f32⟩
  | 74 => ⟨S2048x3, .f32⟩
  | 75 => ⟨S1024x3x3, .f32⟩
  | 76 => ⟨S1024x3, .f32⟩
  | 77 => ⟨S1024x3x3, .f32⟩
  | 78 => ⟨S1024x3, .f32⟩
  | 79 => ⟨S1024x3x3, .f32⟩
  | 80 => ⟨S1024x3, .f32⟩
  | 81 => ⟨S1024x3, .f32⟩
  | 82 => ⟨S512x3x3, .f32⟩
  | 83 => ⟨S512x3, .f32⟩
  | 84 => ⟨S512x3x3, .f32⟩
  | 85 => ⟨S512x3, .f32⟩
  | 86 => ⟨S512x3x3, .f32⟩
  | 87 => ⟨S512x3, .f32⟩
  | 88 => ⟨S512x3, .f32⟩
  | 89 => ⟨S256x3x3, .f32⟩
  | 90 => ⟨S256x3, .f32⟩
  | 91 => ⟨S256x3x3, .f32⟩
  | 92 => ⟨S256x3, .f32⟩
  | 93 => ⟨S256x3x3, .f32⟩
  | 94 => ⟨S256x3, .f32⟩
  | 95 => ⟨S256x3, .f32⟩
  | 96 => ⟨S128x3x3, .f32⟩
  | 97 => ⟨S128x3, .f32⟩
  | 98 => ⟨S128x3x3, .f32⟩
  | 99 => ⟨S128x3, .f32⟩
  | 100 => ⟨S128x3x3, .f32⟩
  | 101 => ⟨S128x3, .f32⟩
  | 102 => ⟨S128x3, .f32⟩
  | 103 => ⟨S64x3x3, .f32⟩
  | 104 => ⟨S64x3, .f32⟩
  | 105 => ⟨S64x3x3, .f32⟩
  | 106 => ⟨S64x3, .f32⟩
  | 107 => ⟨S64x3x3, .f32⟩
  | 108 => ⟨S64x3, .f32⟩
  | 109 => ⟨S64x3, .f32⟩
  | 110 => ⟨S32x3x3, .f32⟩
  | 111 => ⟨S32x3, .f32⟩
  | 112 => ⟨S32x3x3, .f32⟩
  | 113 => ⟨S32x3, .f32⟩
  | 114 => ⟨S32x3x3, .f32⟩
  | 115 => ⟨S32x3, .f32⟩
  | 116 => ⟨S32x3, .f32⟩
  | 117 => ⟨S16x3x3, .f32⟩
  | 118 => ⟨S16x3, .f32⟩
  | 119 => ⟨S16x3x3, .f32⟩
  | 120 => ⟨S16x3, .f32⟩
  | 121 => ⟨S16x3x3, .f32⟩
  | 122 => ⟨S16x3, .f32⟩
  | 123 => ⟨S16x3, .f32⟩
  | 124 => ⟨S8x3x3, .f32⟩
  | 125 => ⟨S8x3, .f32⟩
  | 126 => ⟨S8x3x3, .f32⟩
  | 127 => ⟨S8x3, .f32⟩
  | _ => ⟨S4097x9, .f32⟩

abbrev hbmTy0_1 (i : Nat) : BufTy := match i % 128 with
  | 0 => ⟨S8x3x3, .f32⟩
  | 1 => ⟨S8x3, .f32⟩
  | 2 => ⟨S8x3, .f32⟩
  | 3 => ⟨S4x3x3, .f32⟩
  | 4 => ⟨S4x3, .f32⟩
  | 5 => ⟨S4x3x3, .f32⟩
  | 6 => ⟨S4x3, .f32⟩
  | 7 => ⟨S4x3x3, .f32⟩
  | 8 => ⟨S4x3, .f32⟩
  | 9 => ⟨S4x3, .f32⟩
  | 10 => ⟨S2x3x3, .f32⟩
  | 11 => ⟨S2x3, .f32⟩
  | 12 => ⟨S2x3x3, .f32⟩
  | 13 => ⟨S2x3, .f32⟩
  | 14 => ⟨S2x3x3, .f32⟩
  | 15 => ⟨S2x3, .f32⟩
  | 16 => ⟨S2x3, .f32⟩
  | 17 => ⟨S1x3x3, .f32⟩
  | 18 => ⟨S1x3, .f32⟩
  | 19 => ⟨S1x3x3, .f32⟩
  | 20 => ⟨S1x3, .f32⟩
  | 21 => ⟨S1x3x3, .f32⟩
  | 22 => ⟨S1x3, .f32⟩
  | 23 => ⟨S1x3, .f32⟩
  | 24 => ⟨S0x3x3, .f32⟩
  | 25 => ⟨S0x3, .f32⟩
  | 26 => ⟨S0x3x3, .f32⟩
  | 27 => ⟨S0x3, .f32⟩
  | 28 => ⟨S1x3x3, .f32⟩
  | 29 => ⟨S1x3x3, .f32⟩
  | 30 => ⟨S1x3, .f32⟩
  | 31 => ⟨S1x3, .f32⟩
  | 32 => ⟨S_, .f32⟩
  | 33 => ⟨S2x3x3, .f32⟩
  | 34 => ⟨S_, .f32⟩
  | 35 => ⟨S2x3x3, .f32⟩
  | 36 => ⟨S2x3x3, .f32⟩
  | 37 => ⟨S_, .f32⟩
  | 38 => ⟨S2x3, .f32⟩
  | 39 => ⟨S_, .f32⟩
  | 40 => ⟨S2x3, .f32⟩
  | 41 => ⟨S2x3, .f32⟩
  | 42 => ⟨S1x3x3, .f32⟩
  | 43 => ⟨S1x3, .f32⟩
  | 44 => ⟨S1x3x3, .f32⟩
  | 45 => ⟨S1x3, .f32⟩
  | 46 => ⟨S1x3x3, .f32⟩
  | 47 => ⟨S1x3, .f32⟩
  | 48 => ⟨S1x3, .f32⟩
  | 49 => ⟨S1x3x3, .f32⟩
  | 50 => ⟨S2x3x3, .f32⟩
  | 51 => ⟨S1x3, .f32⟩
  | 52 => ⟨S2x3, .f32⟩
  | 53 => ⟨S_, .f32⟩
  | 54 => ⟨S4x3x3, .f32⟩
  | 55 => ⟨S_, .f32⟩
  | 56 => ⟨S4x3x3, .f32⟩
  | 57 => ⟨S4x3x3, .f32⟩
  | 58 => ⟨S_, .f32⟩
  | 59 => ⟨S4x3, .f32⟩
  | 60 => ⟨S_, .f32⟩
  | 61 => ⟨S4x3, .f32⟩
  | 62 => ⟨S4x3, .f32⟩
  | 63 => ⟨S3x3x3, .f32⟩
  | 64 => ⟨S3x3, .f32⟩
  | 65 => ⟨S3x3x3, .f32⟩
  | 66 => ⟨S3x3, .f32⟩
  | 67 => ⟨S3x3x3, .f32⟩
  | 68 => ⟨S3x3, .f32⟩
  | 69 => ⟨S3x3, .f32⟩
  | 70 => ⟨S1x3x3, .f32⟩
  | 71 => ⟨S4x3x3, .f32⟩
  | 72 => ⟨S1x3, .f32⟩
  | 73 => ⟨S4x3, .f32⟩
  | 74 => ⟨S_, .f32⟩
  | 75 => ⟨S8x3x3, .f32⟩
  | 76 => ⟨S_, .f32⟩
  | 77 => ⟨S8x3x3, .f32⟩
  | 78 => ⟨S8x3x3, .f32⟩
  | 79 => ⟨S_, .f32⟩
  | 80 => ⟨S8x3, .f32⟩
  | 81 => ⟨S_, .f32⟩
  | 82 => ⟨S8x3, .f32⟩
  | 83 => ⟨S8x3, .f32⟩
  | 84 => ⟨S7x3x3, .f32⟩
  | 85 => ⟨S7x3, .f32⟩
  | 86 => ⟨S7x3x3, .f32⟩
  | 87 => ⟨S7x3, .f32⟩
  | 88 => ⟨S7x3x3, .f32⟩
  | 89 => ⟨S7x3, .f32⟩
  | 90 => ⟨S7x3, .f32⟩
  | 91 => ⟨S1x3x3, .f32⟩
  | 92 => ⟨S8x3x3, .f32⟩
  | 93 => ⟨S1x3, .f32⟩
  | 94 => ⟨S8x3, .f32⟩
  | 95 => ⟨S_, .f32⟩
  | 96 => ⟨S16x3x3, .f32⟩
  | 97 => ⟨S_, .f32⟩
  | 98 => ⟨S16x3x3, .f32⟩
  | 99 => ⟨S16x3x3, .f32⟩
  | 100 => ⟨S_, .f32⟩
  | 101 => ⟨S16x3, .f32⟩
  | 102 => ⟨S_, .f32⟩
  | 103 => ⟨S16x3, .f32⟩
  | 104 => ⟨S16x3, .f32⟩
  | 105 => ⟨S15x3x3, .f32⟩
  | 106 => ⟨S15x3, .f32⟩
  | 107 => ⟨S15x3x3, .f32⟩
  | 108 => ⟨S15x3, .f32⟩
  | 109 => ⟨S15x3x3, .f32⟩
  | 110 => ⟨S15x3, .f32⟩
  | 111 => ⟨S15x3, .f32⟩
  | 112 => ⟨S1x3x3, .f32⟩
  | 113 => ⟨S16x3x3, .f32⟩
  | 114 => ⟨S1x3, .f32⟩
  | 115 => ⟨S16x3, .f32⟩
  | 116 => ⟨S_, .f32⟩
  | 117 => ⟨S32x3x3, .f32⟩
  | 118 => ⟨S_, .f32⟩
  | 119 => ⟨S32x3x3, .f32⟩
  | 120 => ⟨S32x3x3, .f32⟩
  | 121 => ⟨S_, .f32⟩
  | 122 => ⟨S32x3, .f32⟩
  | 123 => ⟨S_, .f32⟩
  | 124 => ⟨S32x3, .f32⟩
  | 125 => ⟨S32x3, .f32⟩
  | 126 => ⟨S31x3x3, .f32⟩
  | 127 => ⟨S31x3, .f32⟩
  | _ => ⟨S4097x9, .f32⟩

abbrev hbmTy0_2 (i : Nat) : BufTy := match i % 128 with
  | 0 => ⟨S31x3x3, .f32⟩
  | 1 => ⟨S31x3, .f32⟩
  | 2 => ⟨S31x3x3, .f32⟩
  | 3 => ⟨S31x3, .f32⟩
  | 4 => ⟨S31x3, .f32⟩
  | 5 => ⟨S1x3x3, .f32⟩
  | 6 => ⟨S32x3x3, .f32⟩
  | 7 => ⟨S1x3, .f32⟩
  | 8 => ⟨S32x3, .f32⟩
  | 9 => ⟨S_, .f32⟩
  | 10 => ⟨S64x3x3, .f32⟩
  | 11 => ⟨S_, .f32⟩
  | 12 => ⟨S64x3x3, .f32⟩
  | 13 => ⟨S64x3x3, .f32⟩
  | 14 => ⟨S_, .f32⟩
  | 15 => ⟨S64x3, .f32⟩
  | 16 => ⟨S_, .f32⟩
  | 17 => ⟨S64x3, .f32⟩
  | 18 => ⟨S64x3, .f32⟩
  | 19 => ⟨S63x3x3, .f32⟩
  | 20 => ⟨S63x3, .f32⟩
  | 21 => ⟨S63x3x3, .f32⟩
  | 22 => ⟨S63x3, .f32⟩
  | 23 => ⟨S63x3x3, .f32⟩
  | 24 => ⟨S63x3, .f32⟩
  | 25 => ⟨S63x3, .f32⟩
  | 26 => ⟨S1x3x3, .f32⟩
  | 27 => ⟨S64x3x3, .f32⟩
  | 28 => ⟨S1x3, .f32⟩
  | 29 => ⟨S64x3, .f32⟩
  | 30 => ⟨S_, .f32⟩
  | 31 => ⟨S128x3x3, .f32⟩
  | 32 => ⟨S_, .f32⟩
  | 33 => ⟨S128x3x3, .f32⟩
  | 34 => ⟨S128x3x3, .f32⟩
  | 35 => ⟨S_, .f32⟩
  | 36 => ⟨S128x3, .f32⟩
  | 37 => ⟨S_, .f32⟩
  | 38 => ⟨S128x3, .f32⟩
  | 39 => ⟨S128x3, .f32⟩
  | 40 => ⟨S127x3x3, .f32⟩
  | 41 => ⟨S127x3, .f32⟩
  | 42 => ⟨S127x3x3, .f32⟩
  | 43 => ⟨S127x3, .f32⟩
  | 44 => ⟨S127x3x3, .f32⟩
  | 45 => ⟨S127x3, .f32⟩
  | 46 => ⟨S127x3, .f32⟩
  | 47 => ⟨S1x3x3, .f32⟩
  | 48 => ⟨S128x3x3, .f32⟩
  | 49 => ⟨S1x3, .f32⟩
  | 50 => ⟨S128x3, .f32⟩
  | 51 => ⟨S_, .f32⟩
  | 52 => ⟨S256x3x3, .f32⟩
  | 53 => ⟨S_, .f32⟩
  | 54 => ⟨S256x3x3, .f32⟩
  | 55 => ⟨S256x3x3, .f32⟩
  | 56 => ⟨S_, .f32⟩
  | 57 => ⟨S256x3, .f32⟩
  | 58 => ⟨S_, .f32⟩
  | 59 => ⟨S256x3, .f32⟩
  | 60 => ⟨S256x3, .f32⟩
  | 61 => ⟨S255x3x3, .f32⟩
  | 62 => ⟨S255x3, .f32⟩
  | 63 => ⟨S255x3x3, .f32⟩
  | 64 => ⟨S255x3, .f32⟩
  | 65 => ⟨S255x3x3, .f32⟩
  | 66 => ⟨S255x3, .f32⟩
  | 67 => ⟨S255x3, .f32⟩
  | 68 => ⟨S1x3x3, .f32⟩
  | 69 => ⟨S256x3x3, .f32⟩
  | 70 => ⟨S1x3, .f32⟩
  | 71 => ⟨S256x3, .f32⟩
  | 72 => ⟨S_, .f32⟩
  | 73 => ⟨S512x3x3, .f32⟩
  | 74 => ⟨S_, .f32⟩
  | 75 => ⟨S512x3x3, .f32⟩
  | 76 => ⟨S512x3x3, .f32⟩
  | 77 => ⟨S_, .f32⟩
  | 78 => ⟨S512x3, .f32⟩
  | 79 => ⟨S_, .f32⟩
  | 80 => ⟨S512x3, .f32⟩
  | 81 => ⟨S512x3, .f32⟩
  | 82 => ⟨S511x3x3, .f32⟩
  | 83 => ⟨S511x3, .f32⟩
  | 84 => ⟨S511x3x3, .f32⟩
  | 85 => ⟨S511x3, .f32⟩
  | 86 => ⟨S511x3x3, .f32⟩
  | 87 => ⟨S511x3, .f32⟩
  | 88 => ⟨S511x3, .f32⟩
  | 89 => ⟨S1x3x3, .f32⟩
  | 90 => ⟨S512x3x3, .f32⟩
  | 91 => ⟨S1x3, .f32⟩
  | 92 => ⟨S512x3, .f32⟩
  | 93 => ⟨S_, .f32⟩
  | 94 => ⟨S1024x3x3, .f32⟩
  | 95 => ⟨S_, .f32⟩
  | 96 => ⟨S1024x3x3, .f32⟩
  | 97 => ⟨S1024x3x3, .f32⟩
  | 98 => ⟨S_, .f32⟩
  | 99 => ⟨S1024x3, .f32⟩
  | 100 => ⟨S_, .f32⟩
  | 101 => ⟨S1024x3, .f32⟩
  | 102 => ⟨S1024x3, .f32⟩
  | 103 => ⟨S1023x3x3, .f32⟩
  | 104 => ⟨S1023x3, .f32⟩
  | 105 => ⟨S1023x3x3, .f32⟩
  | 106 => ⟨S1023x3, .f32⟩
  | 107 => ⟨S1023x3x3, .f32⟩
  | 108 => ⟨S1023x3, .f32⟩
  | 109 => ⟨S1023x3, .f32⟩
  | 110 => ⟨S1x3x3, .f32⟩
  | 111 => ⟨S1024x3x3, .f32⟩
  | 112 => ⟨S1x3, .f32⟩
  | 113 => ⟨S1024x3, .f32⟩
  | 114 => ⟨S_, .f32⟩
  | 115 => ⟨S2048x3x3, .f32⟩
  | 116 => ⟨S_, .f32⟩
  | 117 => ⟨S2048x3x3, .f32⟩
  | 118 => ⟨S2048x3x3, .f32⟩
  | 119 => ⟨S_, .f32⟩
  | 120 => ⟨S2048x3, .f32⟩
  | 121 => ⟨S_, .f32⟩
  | 122 => ⟨S2048x3, .f32⟩
  | 123 => ⟨S2048x3, .f32⟩
  | 124 => ⟨S2048x3x3, .f32⟩
  | 125 => ⟨S2048x3, .f32⟩
  | 126 => ⟨S2048x3x3, .f32⟩
  | 127 => ⟨S2048x3, .f32⟩
  | _ => ⟨S4097x9, .f32⟩

abbrev hbmTy0_3 (i : Nat) : BufTy := match i % 128 with
  | 0 => ⟨S2048x3, .f32⟩
  | 1 => ⟨S1x3x3, .f32⟩
  | 2 => ⟨S2049x3x3, .f32⟩
  | 3 => ⟨S1x3, .f32⟩
  | 4 => ⟨S2049x3, .f32⟩
  | 5 => ⟨S_, .f32⟩
  | 6 => ⟨S4097x3x3, .f32⟩
  | 7 => ⟨S_, .f32⟩
  | 8 => ⟨S4097x3x3, .f32⟩
  | 9 => ⟨S4097x3x3, .f32⟩
  | 10 => ⟨S_, .f32⟩
  | 11 => ⟨S4097x3, .f32⟩
  | 12 => ⟨S_, .f32⟩
  | 13 => ⟨S4097x3, .f32⟩
  | 14 => ⟨S4097x3, .f32⟩
  | 15 => ⟨S4096, .i32⟩
  | 16 => ⟨S4096x3, .f32⟩
  | 17 => ⟨S_, .i32⟩
  | 18 => ⟨S4096, .i32⟩
  | 19 => ⟨S4096, .i1⟩
  | 20 => ⟨S_, .i32⟩
  | 21 => ⟨S4096, .i32⟩
  | 22 => ⟨S4096, .i32⟩
  | 23 => ⟨S4096, .i32⟩
  | 24 => ⟨S4096x1, .i32⟩
  | 25 => ⟨S4096x3, .f32⟩
  | 26 => ⟨S3x4096, .f32⟩
  | 27 => ⟨S3x32x128, .f32⟩
  | 28 => ⟨S32x3x128, .f32⟩
  | 29 => ⟨S4096x1, .f32⟩
  | 30 => ⟨S32x1x128, .f32⟩
  | 31 => ⟨S1x1, .f32⟩
  | _ => ⟨S4097x9, .f32⟩

abbrev hbmTy (i : Nat) : BufTy := match i / 128 with
  | 0 => hbmTy0_0 i
  | 1 => hbmTy0_1 i
  | 2 => hbmTy0_2 i
  | 3 => hbmTy0_3 i
  | _ => ⟨S4097x9, .f32⟩

abbrev bufTy : (tb : Table) → Fin (tcTables nBuf tb) → BufTy
  | .hbm, ⟨i, _⟩ => hbmTy i
  | .local _ .vmem, ⟨0, _⟩ => ⟨S512x3, .f32⟩
  | .local _ .vmem, ⟨1, _⟩ => ⟨S512x3, .f32⟩
  | .local _ .vmem, ⟨2, _⟩ => ⟨S512x1, .f32⟩
  | .local _ .vmem, ⟨3, _⟩ => ⟨S512x1, .f32⟩
  | .local _ .vmem, ⟨4, _⟩ => ⟨S1x3x128, .f32⟩
  | .local _ .vmem, ⟨5, _⟩ => ⟨S1x3x128, .f32⟩
  | .local _ .vmem, ⟨6, _⟩ => ⟨S1x1x128, .f32⟩
  | .local _ .vmem, ⟨7, _⟩ => ⟨S1x1x128, .f32⟩
  | .local _ .smem, ⟨0, _⟩ => ⟨S1x1, .f32⟩
  | _, _ => ⟨S4097x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_cst_4 : Ref sig .tc := ⟨.hbm, 160, rfl⟩
abbrev main_v147 : Ref sig .tc := ⟨.hbm, 161, rfl⟩
abbrev main_cst_5 : Ref sig .tc := ⟨.hbm, 162, rfl⟩
abbrev main_v148 : Ref sig .tc := ⟨.hbm, 163, rfl⟩
abbrev main_v149 : Ref sig .tc := ⟨.hbm, 164, rfl⟩
abbrev main_cst_6 : Ref sig .tc := ⟨.hbm, 165, rfl⟩
abbrev main_v150 : Ref sig .tc := ⟨.hbm, 166, rfl⟩
abbrev main_cst_7 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_cst_8 : Ref sig .tc := ⟨.hbm, 181, rfl⟩
abbrev main_v164 : Ref sig .tc := ⟨.hbm, 182, rfl⟩
abbrev main_cst_9 : Ref sig .tc := ⟨.hbm, 183, rfl⟩
abbrev main_v165 : Ref sig .tc := ⟨.hbm, 184, rfl⟩
abbrev main_v166 : Ref sig .tc := ⟨.hbm, 185, rfl⟩
abbrev main_cst_10 : Ref sig .tc := ⟨.hbm, 186, rfl⟩
abbrev main_v167 : Ref sig .tc := ⟨.hbm, 187, rfl⟩
abbrev main_cst_11 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_cst_12 : Ref sig .tc := ⟨.hbm, 202, rfl⟩
abbrev main_v181 : Ref sig .tc := ⟨.hbm, 203, rfl⟩
abbrev main_cst_13 : Ref sig .tc := ⟨.hbm, 204, rfl⟩
abbrev main_v182 : Ref sig .tc := ⟨.hbm, 205, rfl⟩
abbrev main_v183 : Ref sig .tc := ⟨.hbm, 206, rfl⟩
abbrev main_cst_14 : Ref sig .tc := ⟨.hbm, 207, rfl⟩
abbrev main_v184 : Ref sig .tc := ⟨.hbm, 208, rfl⟩
abbrev main_cst_15 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_cst_16 : Ref sig .tc := ⟨.hbm, 223, rfl⟩
abbrev main_v198 : Ref sig .tc := ⟨.hbm, 224, rfl⟩
abbrev main_cst_17 : Ref sig .tc := ⟨.hbm, 225, rfl⟩
abbrev main_v199 : Ref sig .tc := ⟨.hbm, 226, rfl⟩
abbrev main_v200 : Ref sig .tc := ⟨.hbm, 227, rfl⟩
abbrev main_cst_18 : Ref sig .tc := ⟨.hbm, 228, rfl⟩
abbrev main_v201 : Ref sig .tc := ⟨.hbm, 229, rfl⟩
abbrev main_cst_19 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_cst_20 : Ref sig .tc := ⟨.hbm, 244, rfl⟩
abbrev main_v215 : Ref sig .tc := ⟨.hbm, 245, rfl⟩
abbrev main_cst_21 : Ref sig .tc := ⟨.hbm, 246, rfl⟩
abbrev main_v216 : Ref sig .tc := ⟨.hbm, 247, rfl⟩
abbrev main_v217 : Ref sig .tc := ⟨.hbm, 248, rfl⟩
abbrev main_cst_22 : Ref sig .tc := ⟨.hbm, 249, rfl⟩
abbrev main_v218 : Ref sig .tc := ⟨.hbm, 250, rfl⟩
abbrev main_cst_23 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_v230 : Ref sig .tc := ⟨.hbm, 263, rfl⟩
abbrev main_v231 : Ref sig .tc := ⟨.hbm, 264, rfl⟩
abbrev main_cst_24 : Ref sig .tc := ⟨.hbm, 265, rfl⟩
abbrev main_v232 : Ref sig .tc := ⟨.hbm, 266, rfl⟩
abbrev main_cst_25 : Ref sig .tc := ⟨.hbm, 267, rfl⟩
abbrev main_v233 : Ref sig .tc := ⟨.hbm, 268, rfl⟩
abbrev main_v234 : Ref sig .tc := ⟨.hbm, 269, rfl⟩
abbrev main_cst_26 : Ref sig .tc := ⟨.hbm, 270, rfl⟩
abbrev main_v235 : Ref sig .tc := ⟨.hbm, 271, rfl⟩
abbrev main_cst_27 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_v240 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩
abbrev main_v244 : Ref sig .tc := ⟨.hbm, 281, rfl⟩
abbrev main_v245 : Ref sig .tc := ⟨.hbm, 282, rfl⟩
abbrev main_v246 : Ref sig .tc := ⟨.hbm, 283, rfl⟩
abbrev main_v247 : Ref sig .tc := ⟨.hbm, 284, rfl⟩
abbrev main_v248 : Ref sig .tc := ⟨.hbm, 285, rfl⟩
abbrev main_cst_28 : Ref sig .tc := ⟨.hbm, 286, rfl⟩
abbrev main_v249 : Ref sig .tc := ⟨.hbm, 287, rfl⟩
abbrev main_cst_29 : Ref sig .tc := ⟨.hbm, 288, rfl⟩
abbrev main_v250 : Ref sig .tc := ⟨.hbm, 289, rfl⟩
abbrev main_v251 : Ref sig .tc := ⟨.hbm, 290, rfl⟩
abbrev main_cst_30 : Ref sig .tc := ⟨.hbm, 291, rfl⟩
abbrev main_v252 : Ref sig .tc := ⟨.hbm, 292, rfl⟩
abbrev main_cst_31 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_cst_32 : Ref sig .tc := ⟨.hbm, 307, rfl⟩
abbrev main_v266 : Ref sig .tc := ⟨.hbm, 308, rfl⟩
abbrev main_cst_33 : Ref sig .tc := ⟨.hbm, 309, rfl⟩
abbrev main_v267 : Ref sig .tc := ⟨.hbm, 310, rfl⟩
abbrev main_v268 : Ref sig .tc := ⟨.hbm, 311, rfl⟩
abbrev main_cst_34 : Ref sig .tc := ⟨.hbm, 312, rfl⟩
abbrev main_v269 : Ref sig .tc := ⟨.hbm, 313, rfl⟩
abbrev main_cst_35 : Ref sig .tc := ⟨.hbm, 314, rfl⟩
abbrev main_v270 : Ref sig .tc := ⟨.hbm, 315, rfl⟩
abbrev main_v271 : Ref sig .tc := ⟨.hbm, 316, rfl⟩
abbrev main_v272 : Ref sig .tc := ⟨.hbm, 317, rfl⟩
abbrev main_v273 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩
abbrev main_v282 : Ref sig .tc := ⟨.hbm, 327, rfl⟩
abbrev main_cst_36 : Ref sig .tc := ⟨.hbm, 328, rfl⟩
abbrev main_v283 : Ref sig .tc := ⟨.hbm, 329, rfl⟩
abbrev main_cst_37 : Ref sig .tc := ⟨.hbm, 330, rfl⟩
abbrev main_v284 : Ref sig .tc := ⟨.hbm, 331, rfl⟩
abbrev main_v285 : Ref sig .tc := ⟨.hbm, 332, rfl⟩
abbrev main_cst_38 : Ref sig .tc := ⟨.hbm, 333, rfl⟩
abbrev main_v286 : Ref sig .tc := ⟨.hbm, 334, rfl⟩
abbrev main_cst_39 : Ref sig .tc := ⟨.hbm, 335, rfl⟩
abbrev main_v287 : Ref sig .tc := ⟨.hbm, 336, rfl⟩
abbrev main_v288 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_v295 : Ref sig .tc := ⟨.hbm, 344, rfl⟩
abbrev main_v296 : Ref sig .tc := ⟨.hbm, 345, rfl⟩
abbrev main_v297 : Ref sig .tc := ⟨.hbm, 346, rfl⟩
abbrev main_v298 : Ref sig .tc := ⟨.hbm, 347, rfl⟩
abbrev main_v299 : Ref sig .tc := ⟨.hbm, 348, rfl⟩
abbrev main_cst_40 : Ref sig .tc := ⟨.hbm, 349, rfl⟩
abbrev main_v300 : Ref sig .tc := ⟨.hbm, 350, rfl⟩
abbrev main_cst_41 : Ref sig .tc := ⟨.hbm, 351, rfl⟩
abbrev main_v301 : Ref sig .tc := ⟨.hbm, 352, rfl⟩
abbrev main_v302 : Ref sig .tc := ⟨.hbm, 353, rfl⟩
abbrev main_cst_42 : Ref sig .tc := ⟨.hbm, 354, rfl⟩
abbrev main_v303 : Ref sig .tc := ⟨.hbm, 355, rfl⟩
abbrev main_cst_43 : Ref sig .tc := ⟨.hbm, 356, rfl⟩
abbrev main_v304 : Ref sig .tc := ⟨.hbm, 357, rfl⟩
abbrev main_v305 : Ref sig .tc := ⟨.hbm, 358, rfl⟩
abbrev main_v306 : Ref sig .tc := ⟨.hbm, 359, rfl⟩
abbrev main_v307 : Ref sig .tc := ⟨.hbm, 360, rfl⟩
abbrev main_v308 : Ref sig .tc := ⟨.hbm, 361, rfl⟩
abbrev main_v309 : Ref sig .tc := ⟨.hbm, 362, rfl⟩
abbrev main_v310 : Ref sig .tc := ⟨.hbm, 363, rfl⟩
abbrev main_v311 : Ref sig .tc := ⟨.hbm, 364, rfl⟩
abbrev main_v312 : Ref sig .tc := ⟨.hbm, 365, rfl⟩
abbrev main_v313 : Ref sig .tc := ⟨.hbm, 366, rfl⟩
abbrev main_v314 : Ref sig .tc := ⟨.hbm, 367, rfl⟩
abbrev main_v315 : Ref sig .tc := ⟨.hbm, 368, rfl⟩
abbrev main_v316 : Ref sig .tc := ⟨.hbm, 369, rfl⟩
abbrev main_cst_44 : Ref sig .tc := ⟨.hbm, 370, rfl⟩
abbrev main_v317 : Ref sig .tc := ⟨.hbm, 371, rfl⟩
abbrev main_cst_45 : Ref sig .tc := ⟨.hbm, 372, rfl⟩
abbrev main_v318 : Ref sig .tc := ⟨.hbm, 373, rfl⟩
abbrev main_v319 : Ref sig .tc := ⟨.hbm, 374, rfl⟩
abbrev main_cst_46 : Ref sig .tc := ⟨.hbm, 375, rfl⟩
abbrev main_v320 : Ref sig .tc := ⟨.hbm, 376, rfl⟩
abbrev main_cst_47 : Ref sig .tc := ⟨.hbm, 377, rfl⟩
abbrev main_v321 : Ref sig .tc := ⟨.hbm, 378, rfl⟩
abbrev main_v322 : Ref sig .tc := ⟨.hbm, 379, rfl⟩
abbrev main_v323 : Ref sig .tc := ⟨.hbm, 380, rfl⟩
abbrev main_v324 : Ref sig .tc := ⟨.hbm, 381, rfl⟩
abbrev main_v325 : Ref sig .tc := ⟨.hbm, 382, rfl⟩
abbrev main_v326 : Ref sig .tc := ⟨.hbm, 383, rfl⟩
abbrev main_v327 : Ref sig .tc := ⟨.hbm, 384, rfl⟩
abbrev main_v328 : Ref sig .tc := ⟨.hbm, 385, rfl⟩
abbrev main_v329 : Ref sig .tc := ⟨.hbm, 386, rfl⟩
abbrev main_v330 : Ref sig .tc := ⟨.hbm, 387, rfl⟩
abbrev main_v331 : Ref sig .tc := ⟨.hbm, 388, rfl⟩
abbrev main_cst_48 : Ref sig .tc := ⟨.hbm, 389, rfl⟩
abbrev main_v332 : Ref sig .tc := ⟨.hbm, 390, rfl⟩
abbrev main_cst_49 : Ref sig .tc := ⟨.hbm, 391, rfl⟩
abbrev main_v333 : Ref sig .tc := ⟨.hbm, 392, rfl⟩
abbrev main_v334 : Ref sig .tc := ⟨.hbm, 393, rfl⟩
abbrev main_cst_50 : Ref sig .tc := ⟨.hbm, 394, rfl⟩
abbrev main_v335 : Ref sig .tc := ⟨.hbm, 395, rfl⟩
abbrev main_cst_51 : Ref sig .tc := ⟨.hbm, 396, rfl⟩
abbrev main_v336 : Ref sig .tc := ⟨.hbm, 397, rfl⟩
abbrev main_v337 : Ref sig .tc := ⟨.hbm, 398, rfl⟩
abbrev main_v338 : Ref sig .tc := ⟨.hbm, 399, rfl⟩
abbrev main_v339 : Ref sig .tc := ⟨.hbm, 400, rfl⟩
abbrev main_c_52 : Ref sig .tc := ⟨.hbm, 401, rfl⟩
abbrev main_v340 : Ref sig .tc := ⟨.hbm, 402, rfl⟩
abbrev main_v341 : Ref sig .tc := ⟨.hbm, 403, rfl⟩
abbrev main_c_53 : Ref sig .tc := ⟨.hbm, 404, rfl⟩
abbrev main_v342 : Ref sig .tc := ⟨.hbm, 405, rfl⟩
abbrev main_v343 : Ref sig .tc := ⟨.hbm, 406, rfl⟩
abbrev main_v344 : Ref sig .tc := ⟨.hbm, 407, rfl⟩
abbrev main_v345 : Ref sig .tc := ⟨.hbm, 408, rfl⟩
abbrev main_v346 : Ref sig .tc := ⟨.hbm, 409, rfl⟩
abbrev main_v347 : Ref sig .tc := ⟨.hbm, 410, rfl⟩
abbrev main_v348 : Ref sig .tc := ⟨.hbm, 411, rfl⟩
abbrev main_v349 : Ref sig .tc := ⟨.hbm, 412, rfl⟩
abbrev main_v350 : Ref sig .tc := ⟨.hbm, 413, rfl⟩
abbrev main_v351 : Ref sig .tc := ⟨.hbm, 414, rfl⟩
abbrev main_v352 : Ref sig .tc := ⟨.hbm, 415, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 32], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let c128_i32 : BitVec 32 := 128#32
  let arg1 : BitVec 32 := BitVec.ofNat 32 (i 1).val
  let v5 : BitVec 32 := Scalar.muli c128_i32 arg1
  let c127_i32 : BitVec 32 := 127#32
  let v6 : BitVec 32 := Scalar.addi v5 c127_i32
  let c512_i32 : BitVec 32 := 512#32
  let arg0 : BitVec 32 := BitVec.ofNat 32 (i 0).val
  let v7 : BitVec 32 := Scalar.muli c512_i32 arg0
  let v8 : BitVec 1 := Scalar.cmpi .sgt v6 v7
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S4097x9 : Shape := ⟨2, ![4097, 9]⟩
abbrev S4097 : Shape := ⟨1, ![4097]⟩
abbrev S4096x3 : Shape := ⟨2, ![4096, 3]⟩
abbrev S4096 : Shape := ⟨1, ![4096]⟩
abbrev S_ : Shape := ⟨0, ![]⟩
abbrev S4097x1 : Shape := ⟨2, ![4097, 1]⟩
abbrev S4097x2 : Shape := ⟨2, ![4097, 2]⟩
abbrev S4097x3 : Shape := ⟨2, ![4097, 3]⟩
abbrev S4097x1x3 : Shape := ⟨3, ![4097, 1, 3]⟩
abbrev S4097x3x3 : Shape := ⟨3, ![4097, 3, 3]⟩
abbrev S2048x3x3 : Shape := ⟨3, ![2048, 3, 3]⟩
abbrev S2048x3 : Shape := ⟨2, ![2048, 3]⟩
abbrev S1024x3x3 : Shape := ⟨3, ![1024, 3, 3]⟩
abbrev S1024x3 : Shape := ⟨2, ![1024, 3]⟩
abbrev S512x3x3 : Shape := ⟨3, ![512, 3, 3]⟩
abbrev S512x3 : Shape := ⟨2, ![512, 3]⟩
abbrev S256x3x3 : Shape := ⟨3, ![256, 3, 3]⟩
abbrev S256x3 : Shape := ⟨2, ![256, 3]⟩
abbrev S128x3x3 : Shape := ⟨3, ![128, 3, 3]⟩
abbrev S128x3 : Shape := ⟨2, ![128, 3]⟩
abbrev S64x3x3 : Shape := ⟨3, ![64, 3, 3]⟩
abbrev S64x3 : Shape := ⟨2, ![64, 3]⟩
abbrev S32x3x3 : Shape := ⟨3, ![32, 3, 3]⟩
abbrev S32x3 : Shape := ⟨2, ![32, 3]⟩
abbrev S16x3x3 : Shape := ⟨3, ![16, 3, 3]⟩
abbrev S16x3 : Shape := ⟨2, ![16, 3]⟩
abbrev S8x3x3 : Shape := ⟨3, ![8, 3, 3]⟩
abbrev S8x3 : Shape := ⟨2, ![8, 3]⟩
abbrev S4x3x3 : Shape := ⟨3, ![4, 3, 3]⟩
abbrev S4x3 : Shape := ⟨2, ![4, 3]⟩
abbrev S2x3x3 : Shape := ⟨3, ![2, 3, 3]⟩
abbrev S2x3 : Shape := ⟨2, ![2, 3]⟩
abbrev S1x3x3 : Shape := ⟨3, ![1, 3, 3]⟩
abbrev S1x3 : Shape := ⟨2, ![1, 3]⟩
abbrev S0x3x3 : Shape := ⟨3, ![0, 3, 3]⟩
abbrev S0x3 : Shape := ⟨2, ![0, 3]⟩
abbrev S3x3x3 : Shape := ⟨3, ![3, 3, 3]⟩
abbrev S3x3 : Shape := ⟨2, ![3, 3]⟩
abbrev S7x3x3 : Shape := ⟨3, ![7, 3, 3]⟩
abbrev S7x3 : Shape := ⟨2, ![7, 3]⟩
abbrev S15x3x3 : Shape := ⟨3, ![15, 3, 3]⟩
abbrev S15x3 : Shape := ⟨2, ![15, 3]⟩
abbrev S31x3x3 : Shape := ⟨3, ![31, 3, 3]⟩
abbrev S31x3 : Shape := ⟨2, ![31, 3]⟩
abbrev S63x3x3 : Shape := ⟨3, ![63, 3, 3]⟩
abbrev S63x3 : Shape := ⟨2, ![63, 3]⟩
abbrev S127x3x3 : Shape := ⟨3, ![127, 3, 3]⟩
abbrev S127x3 : Shape := ⟨2, ![127, 3]⟩
abbrev S255x3x3 : Shape := ⟨3, ![255, 3, 3]⟩
abbrev S255x3 : Shape := ⟨2, ![255, 3]⟩
abbrev S511x3x3 : Shape := ⟨3, ![511, 3, 3]⟩
abbrev S511x3 : Shape := ⟨2, ![511, 3]⟩
abbrev S1023x3x3 : Shape := ⟨3, ![1023, 3, 3]⟩
abbrev S1023x3 : Shape := ⟨2, ![1023, 3]⟩
abbrev S2049x3x3 : Shape := ⟨3, ![2049, 3, 3]⟩
abbrev S2049x3 : Shape := ⟨2, ![2049, 3]⟩
abbrev S4096x1 : Shape := ⟨2, ![4096, 1]⟩
abbrev S3x4096 : Shape := ⟨2, ![3, 4096]⟩
abbrev S4096x4096 : Shape := ⟨2, ![4096, 4096]⟩
abbrev S1x4096 : Shape := ⟨2, ![1, 4096]⟩
abbrev S4096x2 : Shape := ⟨2, ![4096, 2]⟩
abbrev S1x1 : Shape := ⟨2, ![1, 1]⟩

abbrev nBuf : Space → Nat
  | .hbm => 477
  | .vmem => 0
  | .smem => 0
  | _ => 0

abbrev hbmTy0_0 (i : Nat) : BufTy := match i % 128 with
  | 0 => ⟨S4097x9, .f32⟩
  | 1 => ⟨S4097, .f32⟩
  | 2 => ⟨S4096x3, .f32⟩
  | 3 => ⟨S4096, .f32⟩
  | 4 => ⟨S4097, .i32⟩
  | 5 => ⟨S4097, .i32⟩
  | 6 => ⟨S4097, .i32⟩
  | 7 => ⟨S_, .i32⟩
  | 8 => ⟨S4097, .i32⟩
  | 9 => ⟨S4097, .i1⟩
  | 10 => ⟨S_, .i32⟩
  | 11 => ⟨S4097, .i32⟩
  | 12 => ⟨S4097, .i32⟩
  | 13 => ⟨S4097, .i32⟩
  | 14 => ⟨S_, .i32⟩
  | 15 => ⟨S4097, .i32⟩
  | 16 => ⟨S4097, .i1⟩
  | 17 => ⟨S_, .i32⟩
  | 18 => ⟨S4097, .i32⟩
  | 19 => ⟨S4097, .i32⟩
  | 20 => ⟨S4097, .i32⟩
  | 21 => ⟨S4097x1, .i32⟩
  | 22 => ⟨S4097x1, .i32⟩
  | 23 => ⟨S4097x2, .i32⟩
  | 24 => ⟨S4097x9, .f32⟩
  | 25 => ⟨S4097x1, .f32⟩
  | 26 => ⟨S4097, .f32⟩
  | 27 => ⟨S4097x1, .f32⟩
  | 28 => ⟨S4097, .f32⟩
  | 29 => ⟨S4097x1, .f32⟩
  | 30 => ⟨S4097, .f32⟩
  | 31 => ⟨S_, .f32⟩
  | 32 => ⟨S4097, .f32⟩
  | 33 => ⟨S4097, .f32⟩
  | 34 => ⟨S4097, .f32⟩
  | 35 => ⟨S4097, .f32⟩
  | 36 => ⟨S4097, .f32⟩
  | 37 => ⟨S4097, .f32⟩
  | 38 => ⟨S_, .f32⟩
  | 39 => ⟨S4097, .f32⟩
  | 40 => ⟨S4097, .f32⟩
  | 41 => ⟨S4097, .f32⟩
  | 42 => ⟨S4097, .f32⟩
  | 43 => ⟨S4097x1, .f32⟩
  | 44 => ⟨S4097x1, .f32⟩
  | 45 => ⟨S4097x1, .f32⟩
  | 46 => ⟨S4097x3, .f32⟩
  | 47 => ⟨S4097, .f32⟩
  | 48 => ⟨S4097, .f32⟩
  | 49 => ⟨S4097, .f32⟩
  | 50 => ⟨S4097x1, .f32⟩
  | 51 => ⟨S4097x1, .f32⟩
  | 52 => ⟨S4097x1, .f32⟩
  | 53 => ⟨S4097x3, .f32⟩
  | 54 => ⟨S4097x1, .f32⟩
  | 55 => ⟨S4097x1, .f32⟩
  | 56 => ⟨S4097x1, .f32⟩
  | 57 => ⟨S4097x3, .f32⟩
  | 58 => ⟨S4097x1x3, .f32⟩
  | 59 => ⟨S4097x1x3, .f32⟩
  | 60 => ⟨S4097x1x3, .f32⟩
  | 61 => ⟨S4097x3x3, .f32⟩
  | 62 => ⟨S4097, .f32⟩
  | 63 => ⟨S4097, .f32⟩
  | 64 => ⟨S4097x1, .f32⟩
  | 65 => ⟨S4097x1, .f32⟩
  | 66 => ⟨S4097x1, .f32⟩
  | 67 => ⟨S4097x3, .f32⟩
  | 68 => ⟨S2048x3x3, .f32⟩
  | 69 => ⟨S2048x3, .f32⟩
  | 70 => ⟨S2048x3x3, .f32⟩
  | 71 => ⟨S2048x3, .f32⟩
  | 72 => ⟨S2048x3x3, .f32⟩
  | 73 => ⟨S2048x3, .f32⟩
  | 74 => ⟨S2048x3, .f32⟩
  | 75 => ⟨S1024x3x3, .f32⟩
  | 76 => ⟨S1024x3, .f32⟩
  | 77 => ⟨S1024x3x3, .f32⟩
  | 78 => ⟨S1024x3, .f32⟩
  | 79 => ⟨S1024x3x3, .f32⟩
  | 80 => ⟨S1024x3, .f32⟩
  | 81 => ⟨S1024x3, .f32⟩
  | 82 => ⟨S512x3x3, .f32⟩
  | 83 => ⟨S512x3, .f32⟩
  | 84 => ⟨S512x3x3, .f32⟩
  | 85 => ⟨S512x3, .f32⟩
  | 86 => ⟨S512x3x3, .f32⟩
  | 87 => ⟨S512x3, .f32⟩
  | 88 => ⟨S512x3, .f32⟩
  | 89 => ⟨S256x3x3, .f32⟩
  | 90 => ⟨S256x3, .f32⟩
  | 91 => ⟨S256x3x3, .f32⟩
  | 92 => ⟨S256x3, .f32⟩
  | 93 => ⟨S256x3x3, .f32⟩
  | 94 => ⟨S256x3, .f32⟩
  | 95 => ⟨S256x3, .f32⟩
  | 96 => ⟨S128x3x3, .f32⟩
  | 97 => ⟨S128x3, .f32⟩
  | 98 => ⟨S128x3x3, .f32⟩
  | 99 => ⟨S128x3, .f32⟩
  | 100 => ⟨S128x3x3, .f32⟩
  | 101 => ⟨S128x3, .f32⟩
  | 102 => ⟨S128x3, .f32⟩
  | 103 => ⟨S64x3x3, .f32⟩
  | 104 => ⟨S64x3, .f32⟩
  | 105 => ⟨S64x3x3, .f32⟩
  | 106 => ⟨S64x3, .f32⟩
  | 107 => ⟨S64x3x3, .f32⟩
  | 108 => ⟨S64x3, .f32⟩
  | 109 => ⟨S64x3, .f32⟩
  | 110 => ⟨S32x3x3, .f32⟩
  | 111 => ⟨S32x3, .f32⟩
  | 112 => ⟨S32x3x3, .f32⟩
  | 113 => ⟨S32x3, .f32⟩
  | 114 => ⟨S32x3x3, .f32⟩
  | 115 => ⟨S32x3, .f32⟩
  | 116 => ⟨S32x3, .f32⟩
  | 117 => ⟨S16x3x3, .f32⟩
  | 118 => ⟨S16x3, .f32⟩
  | 119 => ⟨S16x3x3, .f32⟩
  | 120 => ⟨S16x3, .f32⟩
  | 121 => ⟨S16x3x3, .f32⟩
  | 122 => ⟨S16x3, .f32⟩
  | 123 => ⟨S16x3, .f32⟩
  | 124 => ⟨S8x3x3, .f32⟩
  | 125 => ⟨S8x3, .f32⟩
  | 126 => ⟨S8x3x3, .f32⟩
  | 127 => ⟨S8x3, .f32⟩
  | _ => ⟨S4097x9, .f32⟩

abbrev hbmTy0_1 (i : Nat) : BufTy := match i % 128 with
  | 0 => ⟨S8x3x3, .f32⟩
  | 1 => ⟨S8x3, .f32⟩
  | 2 => ⟨S8x3, .f32⟩
  | 3 => ⟨S4x3x3, .f32⟩
  | 4 => ⟨S4x3, .f32⟩
  | 5 => ⟨S4x3x3, .f32⟩
  | 6 => ⟨S4x3, .f32⟩
  | 7 => ⟨S4x3x3, .f32⟩
  | 8 => ⟨S4x3, .f32⟩
  | 9 => ⟨S4x3, .f32⟩
  | 10 => ⟨S2x3x3, .f32⟩
  | 11 => ⟨S2x3, .f32⟩
  | 12 => ⟨S2x3x3, .f32⟩
  | 13 => ⟨S2x3, .f32⟩
  | 14 => ⟨S2x3x3, .f32⟩
  | 15 => ⟨S2x3, .f32⟩
  | 16 => ⟨S2x3, .f32⟩
  | 17 => ⟨S1x3x3, .f32⟩
  | 18 => ⟨S1x3, .f32⟩
  | 19 => ⟨S1x3x3, .f32⟩
  | 20 => ⟨S1x3, .f32⟩
  | 21 => ⟨S1x3x3, .f32⟩
  | 22 => ⟨S1x3, .f32⟩
  | 23 => ⟨S1x3, .f32⟩
  | 24 => ⟨S0x3x3, .f32⟩
  | 25 => ⟨S0x3, .f32⟩
  | 26 => ⟨S0x3x3, .f32⟩
  | 27 => ⟨S0x3, .f32⟩
  | 28 => ⟨S1x3x3, .f32⟩
  | 29 => ⟨S1x3x3, .f32⟩
  | 30 => ⟨S1x3, .f32⟩
  | 31 => ⟨S1x3, .f32⟩
  | 32 => ⟨S_, .f32⟩
  | 33 => ⟨S2x3x3, .f32⟩
  | 34 => ⟨S_, .f32⟩
  | 35 => ⟨S2x3x3, .f32⟩
  | 36 => ⟨S2x3x3, .f32⟩
  | 37 => ⟨S_, .f32⟩
  | 38 => ⟨S2x3, .f32⟩
  | 39 => ⟨S_, .f32⟩
  | 40 => ⟨S2x3, .f32⟩
  | 41 => ⟨S2x3, .f32⟩
  | 42 => ⟨S1x3x3, .f32⟩
  | 43 => ⟨S1x3, .f32⟩
  | 44 => ⟨S1x3x3, .f32⟩
  | 45 => ⟨S1x3, .f32⟩
  | 46 => ⟨S1x3x3, .f32⟩
  | 47 => ⟨S1x3, .f32⟩
  | 48 => ⟨S1x3, .f32⟩
  | 49 => ⟨S1x3x3, .f32⟩
  | 50 => ⟨S2x3x3, .f32⟩
  | 51 => ⟨S1x3, .f32⟩
  | 52 => ⟨S2x3, .f32⟩
  | 53 => ⟨S_, .f32⟩
  | 54 => ⟨S4x3x3, .f32⟩
  | 55 => ⟨S_, .f32⟩
  | 56 => ⟨S4x3x3, .f32⟩
  | 57 => ⟨S4x3x3, .f32⟩
  | 58 => ⟨S_, .f32⟩
  | 59 => ⟨S4x3, .f32⟩
  | 60 => ⟨S_, .f32⟩
  | 61 => ⟨S4x3, .f32⟩
  | 62 => ⟨S4x3, .f32⟩
  | 63 => ⟨S3x3x3, .f32⟩
  | 64 => ⟨S3x3, .f32⟩
  | 65 => ⟨S3x3x3, .f32⟩
  | 66 => ⟨S3x3, .f32⟩
  | 67 => ⟨S3x3x3, .f32⟩
  | 68 => ⟨S3x3, .f32⟩
  | 69 => ⟨S3x3, .f32⟩
  | 70 => ⟨S1x3x3, .f32⟩
  | 71 => ⟨S4x3x3, .f32⟩
  | 72 => ⟨S1x3, .f32⟩
  | 73 => ⟨S4x3, .f32⟩
  | 74 => ⟨S_, .f32⟩
  | 75 => ⟨S8x3x3, .f32⟩
  | 76 => ⟨S_, .f32⟩
  | 77 => ⟨S8x3x3, .f32⟩
  | 78 => ⟨S8x3x3, .f32⟩
  | 79 => ⟨S_, .f32⟩
  | 80 => ⟨S8x3, .f32⟩
  | 81 => ⟨S_, .f32⟩
  | 82 => ⟨S8x3, .f32⟩
  | 83 => ⟨S8x3, .f32⟩
  | 84 => ⟨S7x3x3, .f32⟩
  | 85 => ⟨S7x3, .f32⟩
  | 86 => ⟨S7x3x3, .f32⟩
  | 87 => ⟨S7x3, .f32⟩
  | 88 => ⟨S7x3x3, .f32⟩
  | 89 => ⟨S7x3, .f32⟩
  | 90 => ⟨S7x3, .f32⟩
  | 91 => ⟨S1x3x3, .f32⟩
  | 92 => ⟨S8x3x3, .f32⟩
  | 93 => ⟨S1x3, .f32⟩
  | 94 => ⟨S8x3, .f32⟩
  | 95 => ⟨S_, .f32⟩
  | 96 => ⟨S16x3x3, .f32⟩
  | 97 => ⟨S_, .f32⟩
  | 98 => ⟨S16x3x3, .f32⟩
  | 99 => ⟨S16x3x3, .f32⟩
  | 100 => ⟨S_, .f32⟩
  | 101 => ⟨S16x3, .f32⟩
  | 102 => ⟨S_, .f32⟩
  | 103 => ⟨S16x3, .f32⟩
  | 104 => ⟨S16x3, .f32⟩
  | 105 => ⟨S15x3x3, .f32⟩
  | 106 => ⟨S15x3, .f32⟩
  | 107 => ⟨S15x3x3, .f32⟩
  | 108 => ⟨S15x3, .f32⟩
  | 109 => ⟨S15x3x3, .f32⟩
  | 110 => ⟨S15x3, .f32⟩
  | 111 => ⟨S15x3, .f32⟩
  | 112 => ⟨S1x3x3, .f32⟩
  | 113 => ⟨S16x3x3, .f32⟩
  | 114 => ⟨S1x3, .f32⟩
  | 115 => ⟨S16x3, .f32⟩
  | 116 => ⟨S_, .f32⟩
  | 117 => ⟨S32x3x3, .f32⟩
  | 118 => ⟨S_, .f32⟩
  | 119 => ⟨S32x3x3, .f32⟩
  | 120 => ⟨S32x3x3, .f32⟩
  | 121 => ⟨S_, .f32⟩
  | 122 => ⟨S32x3, .f32⟩
  | 123 => ⟨S_, .f32⟩
  | 124 => ⟨S32x3, .f32⟩
  | 125 => ⟨S32x3, .f32⟩
  | 126 => ⟨S31x3x3, .f32⟩
  | 127 => ⟨S31x3, .f32⟩
  | _ => ⟨S4097x9, .f32⟩

abbrev hbmTy0_2 (i : Nat) : BufTy := match i % 128 with
  | 0 => ⟨S31x3x3, .f32⟩
  | 1 => ⟨S31x3, .f32⟩
  | 2 => ⟨S31x3x3, .f32⟩
  | 3 => ⟨S31x3, .f32⟩
  | 4 => ⟨S31x3, .f32⟩
  | 5 => ⟨S1x3x3, .f32⟩
  | 6 => ⟨S32x3x3, .f32⟩
  | 7 => ⟨S1x3, .f32⟩
  | 8 => ⟨S32x3, .f32⟩
  | 9 => ⟨S_, .f32⟩
  | 10 => ⟨S64x3x3, .f32⟩
  | 11 => ⟨S_, .f32⟩
  | 12 => ⟨S64x3x3, .f32⟩
  | 13 => ⟨S64x3x3, .f32⟩
  | 14 => ⟨S_, .f32⟩
  | 15 => ⟨S64x3, .f32⟩
  | 16 => ⟨S_, .f32⟩
  | 17 => ⟨S64x3, .f32⟩
  | 18 => ⟨S64x3, .f32⟩
  | 19 => ⟨S63x3x3, .f32⟩
  | 20 => ⟨S63x3, .f32⟩
  | 21 => ⟨S63x3x3, .f32⟩
  | 22 => ⟨S63x3, .f32⟩
  | 23 => ⟨S63x3x3, .f32⟩
  | 24 => ⟨S63x3, .f32⟩
  | 25 => ⟨S63x3, .f32⟩
  | 26 => ⟨S1x3x3, .f32⟩
  | 27 => ⟨S64x3x3, .f32⟩
  | 28 => ⟨S1x3, .f32⟩
  | 29 => ⟨S64x3, .f32⟩
  | 30 => ⟨S_, .f32⟩
  | 31 => ⟨S128x3x3, .f32⟩
  | 32 => ⟨S_, .f32⟩
  | 33 => ⟨S128x3x3, .f32⟩
  | 34 => ⟨S128x3x3, .f32⟩
  | 35 => ⟨S_, .f32⟩
  | 36 => ⟨S128x3, .f32⟩
  | 37 => ⟨S_, .f32⟩
  | 38 => ⟨S128x3, .f32⟩
  | 39 => ⟨S128x3, .f32⟩
  | 40 => ⟨S127x3x3, .f32⟩
  | 41 => ⟨S127x3, .f32⟩
  | 42 => ⟨S127x3x3, .f32⟩
  | 43 => ⟨S127x3, .f32⟩
  | 44 => ⟨S127x3x3, .f32⟩
  | 45 => ⟨S127x3, .f32⟩
  | 46 => ⟨S127x3, .f32⟩
  | 47 => ⟨S1x3x3, .f32⟩
  | 48 => ⟨S128x3x3, .f32⟩
  | 49 => ⟨S1x3, .f32⟩
  | 50 => ⟨S128x3, .f32⟩
  | 51 => ⟨S_, .f32⟩
  | 52 => ⟨S256x3x3, .f32⟩
  | 53 => ⟨S_, .f32⟩
  | 54 => ⟨S256x3x3, .f32⟩
  | 55 => ⟨S256x3x3, .f32⟩
  | 56 => ⟨S_, .f32⟩
  | 57 => ⟨S256x3, .f32⟩
  | 58 => ⟨S_, .f32⟩
  | 59 => ⟨S256x3, .f32⟩
  | 60 => ⟨S256x3, .f32⟩
  | 61 => ⟨S255x3x3, .f32⟩
  | 62 => ⟨S255x3, .f32⟩
  | 63 => ⟨S255x3x3, .f32⟩
  | 64 => ⟨S255x3, .f32⟩
  | 65 => ⟨S255x3x3, .f32⟩
  | 66 => ⟨S255x3, .f32⟩
  | 67 => ⟨S255x3, .f32⟩
  | 68 => ⟨S1x3x3, .f32⟩
  | 69 => ⟨S256x3x3, .f32⟩
  | 70 => ⟨S1x3, .f32⟩
  | 71 => ⟨S256x3, .f32⟩
  | 72 => ⟨S_, .f32⟩
  | 73 => ⟨S512x3x3, .f32⟩
  | 74 => ⟨S_, .f32⟩
  | 75 => ⟨S512x3x3, .f32⟩
  | 76 => ⟨S512x3x3, .f32⟩
  | 77 => ⟨S_, .f32⟩
  | 78 => ⟨S512x3, .f32⟩
  | 79 => ⟨S_, .f32⟩
  | 80 => ⟨S512x3, .f32⟩
  | 81 => ⟨S512x3, .f32⟩
  | 82 => ⟨S511x3x3, .f32⟩
  | 83 => ⟨S511x3, .f32⟩
  | 84 => ⟨S511x3x3, .f32⟩
  | 85 => ⟨S511x3, .f32⟩
  | 86 => ⟨S511x3x3, .f32⟩
  | 87 => ⟨S511x3, .f32⟩
  | 88 => ⟨S511x3, .f32⟩
  | 89 => ⟨S1x3x3, .f32⟩
  | 90 => ⟨S512x3x3, .f32⟩
  | 91 => ⟨S1x3, .f32⟩
  | 92 => ⟨S512x3, .f32⟩
  | 93 => ⟨S_, .f32⟩
  | 94 => ⟨S1024x3x3, .f32⟩
  | 95 => ⟨S_, .f32⟩
  | 96 => ⟨S1024x3x3, .f32⟩
  | 97 => ⟨S1024x3x3, .f32⟩
  | 98 => ⟨S_, .f32⟩
  | 99 => ⟨S1024x3, .f32⟩
  | 100 => ⟨S_, .f32⟩
  | 101 => ⟨S1024x3, .f32⟩
  | 102 => ⟨S1024x3, .f32⟩
  | 103 => ⟨S1023x3x3, .f32⟩
  | 104 => ⟨S1023x3, .f32⟩
  | 105 => ⟨S1023x3x3, .f32⟩
  | 106 => ⟨S1023x3, .f32⟩
  | 107 => ⟨S1023x3x3, .f32⟩
  | 108 => ⟨S1023x3, .f32⟩
  | 109 => ⟨S1023x3, .f32⟩
  | 110 => ⟨S1x3x3, .f32⟩
  | 111 => ⟨S1024x3x3, .f32⟩
  | 112 => ⟨S1x3, .f32⟩
  | 113 => ⟨S1024x3, .f32⟩
  | 114 => ⟨S_, .f32⟩
  | 115 => ⟨S2048x3x3, .f32⟩
  | 116 => ⟨S_, .f32⟩
  | 117 => ⟨S2048x3x3, .f32⟩
  | 118 => ⟨S2048x3x3, .f32⟩
  | 119 => ⟨S_, .f32⟩
  | 120 => ⟨S2048x3, .f32⟩
  | 121 => ⟨S_, .f32⟩
  | 122 => ⟨S2048x3, .f32⟩
  | 123 => ⟨S2048x3, .f32⟩
  | 124 => ⟨S2048x3x3, .f32⟩
  | 125 => ⟨S2048x3, .f32⟩
  | 126 => ⟨S2048x3x3, .f32⟩
  | 127 => ⟨S2048x3, .f32⟩
  | _ => ⟨S4097x9, .f32⟩

abbrev hbmTy0_3 (i : Nat) : BufTy := match i % 128 with
  | 0 => ⟨S2048x3, .f32⟩
  | 1 => ⟨S1x3x3, .f32⟩
  | 2 => ⟨S2049x3x3, .f32⟩
  | 3 => ⟨S1x3, .f32⟩
  | 4 => ⟨S2049x3, .f32⟩
  | 5 => ⟨S_, .f32⟩
  | 6 => ⟨S4097x3x3, .f32⟩
  | 7 => ⟨S_, .f32⟩
  | 8 => ⟨S4097x3x3, .f32⟩
  | 9 => ⟨S4097x3x3, .f32⟩
  | 10 => ⟨S_, .f32⟩
  | 11 => ⟨S4097x3, .f32⟩
  | 12 => ⟨S_, .f32⟩
  | 13 => ⟨S4097x3, .f32⟩
  | 14 => ⟨S4097x3, .f32⟩
  | 15 => ⟨S4096, .i32⟩
  | 16 => ⟨S4096x3, .f32⟩
  | 17 => ⟨S_, .i32⟩
  | 18 => ⟨S4096, .i32⟩
  | 19 => ⟨S4096, .i1⟩
  | 20 => ⟨S_, .i32⟩
  | 21 => ⟨S4096, .i32⟩
  | 22 => ⟨S4096, .i32⟩
  | 23 => ⟨S4096, .i32⟩
  | 24 => ⟨S4096x1, .i32⟩
  | 25 => ⟨S4096x3, .f32⟩
  | 26 => ⟨S4096x3, .f32⟩
  | 27 => ⟨S_, .f32⟩
  | 28 => ⟨S4096, .f32⟩
  | 29 => ⟨S3x4096, .f32⟩
  | 30 => ⟨S4096x4096, .f32⟩
  | 31 => ⟨S4096x1, .f32⟩
  | 32 => ⟨S1x4096, .f32⟩
  | 33 => ⟨S4096x4096, .f32⟩
  | 34 => ⟨S4096x4096, .f32⟩
  | 35 => ⟨S4096x4096, .f32⟩
  | 36 => ⟨S_, .f32⟩
  | 37 => ⟨S4096x4096, .f32⟩
  | 38 => ⟨S4096x4096, .f32⟩
  | 39 => ⟨S4096x4096, .f32⟩
  | 40 => ⟨S_, .f32⟩
  | 41 => ⟨S_, .f32⟩
  | 42 => ⟨S4096x4096, .f32⟩
  | 43 => ⟨S4096x4096, .f32⟩
  | 44 => ⟨S_, .f32⟩
  | 45 => ⟨S4096x4096, .f32⟩
  | 46 => ⟨S4096x4096, .f32⟩
  | 47 => ⟨S_, .f32⟩
  | 48 => ⟨S4096x4096, .f32⟩
  | 49 => ⟨S4096x4096, .f32⟩
  | 50 => ⟨S4096x4096, .f32⟩
  | 51 => ⟨S4096x4096, .f32⟩
  | 52 => ⟨S4096x4096, .f32⟩
  | 53 => ⟨S4096x4096, .f32⟩
  | 54 => ⟨S4096x4096, .f32⟩
  | 55 => ⟨S4096x4096, .f32⟩
  | 56 => ⟨S_, .f32⟩
  | 57 => ⟨S4096x4096, .f32⟩
  | 58 => ⟨S4096x4096, .f32⟩
  | 59 => ⟨S4096x1, .f32⟩
  | 60 => ⟨S1x4096, .f32⟩
  | 61 => ⟨S4096x4096, .f32⟩
  | 62 => ⟨S4096x4096, .f32⟩
  | 63 => ⟨S4096x4096, .f32⟩
  | 64 => ⟨S4096x4096, .f32⟩
  | 65 => ⟨S4096x4096, .f32⟩
  | 66 => ⟨S4096x4096, .f32⟩
  | 67 => ⟨S4096, .i32⟩
  | 68 => ⟨S_, .i32⟩
  | 69 => ⟨S4096, .i32⟩
  | 70 => ⟨S4096, .i1⟩
  | 71 => ⟨S_, .i32⟩
  | 72 => ⟨S4096, .i32⟩
  | 73 => ⟨S4096, .i32⟩
  | 74 => ⟨S4096, .i32⟩
  | 75 => ⟨S_, .i32⟩
  | 76 => ⟨S4096, .i32⟩
  | 77 => ⟨S4096, .i1⟩
  | 78 => ⟨S_, .i32⟩
  | 79 => ⟨S4096, .i32⟩
  | 80 => ⟨S4096, .i32⟩
  | 81 => ⟨S4096, .i32⟩
  | 82 => ⟨S4096x1, .i32⟩
  | 83 => ⟨S4096x1, .i32⟩
  | 84 => ⟨S4096x2, .i32⟩
  | 85 => ⟨S_, .f32⟩
  | 86 => ⟨S4096, .f32⟩
  | 87 => ⟨S4096x4096, .f32⟩
  | 88 => ⟨S_, .f32⟩
  | 89 => ⟨S_, .f32⟩
  | 90 => ⟨S_, .f32⟩
  | 91 => ⟨S_, .f32⟩
  | 92 => ⟨S1x1, .f32⟩
  | _ => ⟨S4097x9, .f32⟩

abbrev hbmTy (i : Nat) : BufTy := match i / 128 with
  | 0 => hbmTy0_0 i
  | 1 => hbmTy0_1 i
  | 2 => hbmTy0_2 i
  | 3 => hbmTy0_3 i
  | _ => ⟨S4097x9, .f32⟩

abbrev bufTy : (tb : Table) → Fin (tcTables nBuf tb) → BufTy
  | .hbm, ⟨i, _⟩ => hbmTy i
  | _, _ => ⟨S4097x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_cst_4 : Ref sig .tc := ⟨.hbm, 160, rfl⟩
abbrev main_v147 : Ref sig .tc := ⟨.hbm, 161, rfl⟩
abbrev main_cst_5 : Ref sig .tc := ⟨.hbm, 162, rfl⟩
abbrev main_v148 : Ref sig .tc := ⟨.hbm, 163, rfl⟩
abbrev main_v149 : Ref sig .tc := ⟨.hbm, 164, rfl⟩
abbrev main_cst_6 : Ref sig .tc := ⟨.hbm, 165, rfl⟩
abbrev main_v150 : Ref sig .tc := ⟨.hbm, 166, rfl⟩
abbrev main_cst_7 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_cst_8 : Ref sig .tc := ⟨.hbm, 181, rfl⟩
abbrev main_v164 : Ref sig .tc := ⟨.hbm, 182, rfl⟩
abbrev main_cst_9 : Ref sig .tc := ⟨.hbm, 183, rfl⟩
abbrev main_v165 : Ref sig .tc := ⟨.hbm, 184, rfl⟩
abbrev main_v166 : Ref sig .tc := ⟨.hbm, 185, rfl⟩
abbrev main_cst_10 : Ref sig .tc := ⟨.hbm, 186, rfl⟩
abbrev main_v167 : Ref sig .tc := ⟨.hbm, 187, rfl⟩
abbrev main_cst_11 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_cst_12 : Ref sig .tc := ⟨.hbm, 202, rfl⟩
abbrev main_v181 : Ref sig .tc := ⟨.hbm, 203, rfl⟩
abbrev main_cst_13 : Ref sig .tc := ⟨.hbm, 204, rfl⟩
abbrev main_v182 : Ref sig .tc := ⟨.hbm, 205, rfl⟩
abbrev main_v183 : Ref sig .tc := ⟨.hbm, 206, rfl⟩
abbrev main_cst_14 : Ref sig .tc := ⟨.hbm, 207, rfl⟩
abbrev main_v184 : Ref sig .tc := ⟨.hbm, 208, rfl⟩
abbrev main_cst_15 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_cst_16 : Ref sig .tc := ⟨.hbm, 223, rfl⟩
abbrev main_v198 : Ref sig .tc := ⟨.hbm, 224, rfl⟩
abbrev main_cst_17 : Ref sig .tc := ⟨.hbm, 225, rfl⟩
abbrev main_v199 : Ref sig .tc := ⟨.hbm, 226, rfl⟩
abbrev main_v200 : Ref sig .tc := ⟨.hbm, 227, rfl⟩
abbrev main_cst_18 : Ref sig .tc := ⟨.hbm, 228, rfl⟩
abbrev main_v201 : Ref sig .tc := ⟨.hbm, 229, rfl⟩
abbrev main_cst_19 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_cst_20 : Ref sig .tc := ⟨.hbm, 244, rfl⟩
abbrev main_v215 : Ref sig .tc := ⟨.hbm, 245, rfl⟩
abbrev main_cst_21 : Ref sig .tc := ⟨.hbm, 246, rfl⟩
abbrev main_v216 : Ref sig .tc := ⟨.hbm, 247, rfl⟩
abbrev main_v217 : Ref sig .tc := ⟨.hbm, 248, rfl⟩
abbrev main_cst_22 : Ref sig .tc := ⟨.hbm, 249, rfl⟩
abbrev main_v218 : Ref sig .tc := ⟨.hbm, 250, rfl⟩
abbrev main_cst_23 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_v230 : Ref sig .tc := ⟨.hbm, 263, rfl⟩
abbrev main_v231 : Ref sig .tc := ⟨.hbm, 264, rfl⟩
abbrev main_cst_24 : Ref sig .tc := ⟨.hbm, 265, rfl⟩
abbrev main_v232 : Ref sig .tc := ⟨.hbm, 266, rfl⟩
abbrev main_cst_25 : Ref sig .tc := ⟨.hbm, 267, rfl⟩
abbrev main_v233 : Ref sig .tc := ⟨.hbm, 268, rfl⟩
abbrev main_v234 : Ref sig .tc := ⟨.hbm, 269, rfl⟩
abbrev main_cst_26 : Ref sig .tc := ⟨.hbm, 270, rfl⟩
abbrev main_v235 : Ref sig .tc := ⟨.hbm, 271, rfl⟩
abbrev main_cst_27 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_v240 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩
abbrev main_v244 : Ref sig .tc := ⟨.hbm, 281, rfl⟩
abbrev main_v245 : Ref sig .tc := ⟨.hbm, 282, rfl⟩
abbrev main_v246 : Ref sig .tc := ⟨.hbm, 283, rfl⟩
abbrev main_v247 : Ref sig .tc := ⟨.hbm, 284, rfl⟩
abbrev main_v248 : Ref sig .tc := ⟨.hbm, 285, rfl⟩
abbrev main_cst_28 : Ref sig .tc := ⟨.hbm, 286, rfl⟩
abbrev main_v249 : Ref sig .tc := ⟨.hbm, 287, rfl⟩
abbrev main_cst_29 : Ref sig .tc := ⟨.hbm, 288, rfl⟩
abbrev main_v250 : Ref sig .tc := ⟨.hbm, 289, rfl⟩
abbrev main_v251 : Ref sig .tc := ⟨.hbm, 290, rfl⟩
abbrev main_cst_30 : Ref sig .tc := ⟨.hbm, 291, rfl⟩
abbrev main_v252 : Ref sig .tc := ⟨.hbm, 292, rfl⟩
abbrev main_cst_31 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_cst_32 : Ref sig .tc := ⟨.hbm, 307, rfl⟩
abbrev main_v266 : Ref sig .tc := ⟨.hbm, 308, rfl⟩
abbrev main_cst_33 : Ref sig .tc := ⟨.hbm, 309, rfl⟩
abbrev main_v267 : Ref sig .tc := ⟨.hbm, 310, rfl⟩
abbrev main_v268 : Ref sig .tc := ⟨.hbm, 311, rfl⟩
abbrev main_cst_34 : Ref sig .tc := ⟨.hbm, 312, rfl⟩
abbrev main_v269 : Ref sig .tc := ⟨.hbm, 313, rfl⟩
abbrev main_cst_35 : Ref sig .tc := ⟨.hbm, 314, rfl⟩
abbrev main_v270 : Ref sig .tc := ⟨.hbm, 315, rfl⟩
abbrev main_v271 : Ref sig .tc := ⟨.hbm, 316, rfl⟩
abbrev main_v272 : Ref sig .tc := ⟨.hbm, 317, rfl⟩
abbrev main_v273 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩
abbrev main_v282 : Ref sig .tc := ⟨.hbm, 327, rfl⟩
abbrev main_cst_36 : Ref sig .tc := ⟨.hbm, 328, rfl⟩
abbrev main_v283 : Ref sig .tc := ⟨.hbm, 329, rfl⟩
abbrev main_cst_37 : Ref sig .tc := ⟨.hbm, 330, rfl⟩
abbrev main_v284 : Ref sig .tc := ⟨.hbm, 331, rfl⟩
abbrev main_v285 : Ref sig .tc := ⟨.hbm, 332, rfl⟩
abbrev main_cst_38 : Ref sig .tc := ⟨.hbm, 333, rfl⟩
abbrev main_v286 : Ref sig .tc := ⟨.hbm, 334, rfl⟩
abbrev main_cst_39 : Ref sig .tc := ⟨.hbm, 335, rfl⟩
abbrev main_v287 : Ref sig .tc := ⟨.hbm, 336, rfl⟩
abbrev main_v288 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_v295 : Ref sig .tc := ⟨.hbm, 344, rfl⟩
abbrev main_v296 : Ref sig .tc := ⟨.hbm, 345, rfl⟩
abbrev main_v297 : Ref sig .tc := ⟨.hbm, 346, rfl⟩
abbrev main_v298 : Ref sig .tc := ⟨.hbm, 347, rfl⟩
abbrev main_v299 : Ref sig .tc := ⟨.hbm, 348, rfl⟩
abbrev main_cst_40 : Ref sig .tc := ⟨.hbm, 349, rfl⟩
abbrev main_v300 : Ref sig .tc := ⟨.hbm, 350, rfl⟩
abbrev main_cst_41 : Ref sig .tc := ⟨.hbm, 351, rfl⟩
abbrev main_v301 : Ref sig .tc := ⟨.hbm, 352, rfl⟩
abbrev main_v302 : Ref sig .tc := ⟨.hbm, 353, rfl⟩
abbrev main_cst_42 : Ref sig .tc := ⟨.hbm, 354, rfl⟩
abbrev main_v303 : Ref sig .tc := ⟨.hbm, 355, rfl⟩
abbrev main_cst_43 : Ref sig .tc := ⟨.hbm, 356, rfl⟩
abbrev main_v304 : Ref sig .tc := ⟨.hbm, 357, rfl⟩
abbrev main_v305 : Ref sig .tc := ⟨.hbm, 358, rfl⟩
abbrev main_v306 : Ref sig .tc := ⟨.hbm, 359, rfl⟩
abbrev main_v307 : Ref sig .tc := ⟨.hbm, 360, rfl⟩
abbrev main_v308 : Ref sig .tc := ⟨.hbm, 361, rfl⟩
abbrev main_v309 : Ref sig .tc := ⟨.hbm, 362, rfl⟩
abbrev main_v310 : Ref sig .tc := ⟨.hbm, 363, rfl⟩
abbrev main_v311 : Ref sig .tc := ⟨.hbm, 364, rfl⟩
abbrev main_v312 : Ref sig .tc := ⟨.hbm, 365, rfl⟩
abbrev main_v313 : Ref sig .tc := ⟨.hbm, 366, rfl⟩
abbrev main_v314 : Ref sig .tc := ⟨.hbm, 367, rfl⟩
abbrev main_v315 : Ref sig .tc := ⟨.hbm, 368, rfl⟩
abbrev main_v316 : Ref sig .tc := ⟨.hbm, 369, rfl⟩
abbrev main_cst_44 : Ref sig .tc := ⟨.hbm, 370, rfl⟩
abbrev main_v317 : Ref sig .tc := ⟨.hbm, 371, rfl⟩
abbrev main_cst_45 : Ref sig .tc := ⟨.hbm, 372, rfl⟩
abbrev main_v318 : Ref sig .tc := ⟨.hbm, 373, rfl⟩
abbrev main_v319 : Ref sig .tc := ⟨.hbm, 374, rfl⟩
abbrev main_cst_46 : Ref sig .tc := ⟨.hbm, 375, rfl⟩
abbrev main_v320 : Ref sig .tc := ⟨.hbm, 376, rfl⟩
abbrev main_cst_47 : Ref sig .tc := ⟨.hbm, 377, rfl⟩
abbrev main_v321 : Ref sig .tc := ⟨.hbm, 378, rfl⟩
abbrev main_v322 : Ref sig .tc := ⟨.hbm, 379, rfl⟩
abbrev main_v323 : Ref sig .tc := ⟨.hbm, 380, rfl⟩
abbrev main_v324 : Ref sig .tc := ⟨.hbm, 381, rfl⟩
abbrev main_v325 : Ref sig .tc := ⟨.hbm, 382, rfl⟩
abbrev main_v326 : Ref sig .tc := ⟨.hbm, 383, rfl⟩
abbrev main_v327 : Ref sig .tc := ⟨.hbm, 384, rfl⟩
abbrev main_v328 : Ref sig .tc := ⟨.hbm, 385, rfl⟩
abbrev main_v329 : Ref sig .tc := ⟨.hbm, 386, rfl⟩
abbrev main_v330 : Ref sig .tc := ⟨.hbm, 387, rfl⟩
abbrev main_v331 : Ref sig .tc := ⟨.hbm, 388, rfl⟩
abbrev main_cst_48 : Ref sig .tc := ⟨.hbm, 389, rfl⟩
abbrev main_v332 : Ref sig .tc := ⟨.hbm, 390, rfl⟩
abbrev main_cst_49 : Ref sig .tc := ⟨.hbm, 391, rfl⟩
abbrev main_v333 : Ref sig .tc := ⟨.hbm, 392, rfl⟩
abbrev main_v334 : Ref sig .tc := ⟨.hbm, 393, rfl⟩
abbrev main_cst_50 : Ref sig .tc := ⟨.hbm, 394, rfl⟩
abbrev main_v335 : Ref sig .tc := ⟨.hbm, 395, rfl⟩
abbrev main_cst_51 : Ref sig .tc := ⟨.hbm, 396, rfl⟩
abbrev main_v336 : Ref sig .tc := ⟨.hbm, 397, rfl⟩
abbrev main_v337 : Ref sig .tc := ⟨.hbm, 398, rfl⟩
abbrev main_v338 : Ref sig .tc := ⟨.hbm, 399, rfl⟩
abbrev main_v339 : Ref sig .tc := ⟨.hbm, 400, rfl⟩
abbrev main_c_52 : Ref sig .tc := ⟨.hbm, 401, rfl⟩
abbrev main_v340 : Ref sig .tc := ⟨.hbm, 402, rfl⟩
abbrev main_v341 : Ref sig .tc := ⟨.hbm, 403, rfl⟩
abbrev main_c_53 : Ref sig .tc := ⟨.hbm, 404, rfl⟩
abbrev main_v342 : Ref sig .tc := ⟨.hbm, 405, rfl⟩
abbrev main_v343 : Ref sig .tc := ⟨.hbm, 406, rfl⟩
abbrev main_v344 : Ref sig .tc := ⟨.hbm, 407, rfl⟩
abbrev main_v345 : Ref sig .tc := ⟨.hbm, 408, rfl⟩
abbrev main_v346 : Ref sig .tc := ⟨.hbm, 409, rfl⟩
abbrev main_v347 : Ref sig .tc := ⟨.hbm, 410, rfl⟩
abbrev main_cst_54 : Ref sig .tc := ⟨.hbm, 411, rfl⟩
abbrev main_v348 : Ref sig .tc := ⟨.hbm, 412, rfl⟩
abbrev main_v349 : Ref sig .tc := ⟨.hbm, 413, rfl⟩
abbrev main_v350 : Ref sig .tc := ⟨.hbm, 414, rfl⟩
abbrev main_v351 : Ref sig .tc := ⟨.hbm, 415, rfl⟩
abbrev main_v352 : Ref sig .tc := ⟨.hbm, 416, rfl⟩
abbrev main_v353 : Ref sig .tc := ⟨.hbm, 417, rfl⟩
abbrev main_v354 : Ref sig .tc := ⟨.hbm, 418, rfl⟩
abbrev main_v355 : Ref sig .tc := ⟨.hbm, 419, rfl⟩
abbrev main_cst_55 : Ref sig .tc := ⟨.hbm, 420, rfl⟩
abbrev main_v356 : Ref sig .tc := ⟨.hbm, 421, rfl⟩
abbrev main_v357 : Ref sig .tc := ⟨.hbm, 422, rfl⟩
abbrev main_v358 : Ref sig .tc := ⟨.hbm, 423, rfl⟩
abbrev main_cst_56 : Ref sig .tc := ⟨.hbm, 424, rfl⟩
abbrev main_call0_v0 : Ref sig .tc := ⟨.hbm, 425, rfl⟩
abbrev main_call0_v1 : Ref sig .tc := ⟨.hbm, 426, rfl⟩
abbrev main_v359 : Ref sig .tc := ⟨.hbm, 427, rfl⟩
abbrev main_cst_57 : Ref sig .tc := ⟨.hbm, 428, rfl⟩
abbrev main_v360 : Ref sig .tc := ⟨.hbm, 429, rfl⟩
abbrev main_v361 : Ref sig .tc := ⟨.hbm, 430, rfl⟩
abbrev main_cst_58 : Ref sig .tc := ⟨.hbm, 431, rfl⟩
abbrev main_v362 : Ref sig .tc := ⟨.hbm, 432, rfl⟩
abbrev main_v363 : Ref sig .tc := ⟨.hbm, 433, rfl⟩
abbrev main_v364 : Ref sig .tc := ⟨.hbm, 434, rfl⟩
abbrev main_v365 : Ref sig .tc := ⟨.hbm, 435, rfl⟩
abbrev main_v366 : Ref sig .tc := ⟨.hbm, 436, rfl⟩
abbrev main_v367 : Ref sig .tc := ⟨.hbm, 437, rfl⟩
abbrev main_v368 : Ref sig .tc := ⟨.hbm, 438, rfl⟩
abbrev main_v369 : Ref sig .tc := ⟨.hbm, 439, rfl⟩
abbrev main_cst_59 : Ref sig .tc := ⟨.hbm, 440, rfl⟩
abbrev main_v370 : Ref sig .tc := ⟨.hbm, 441, rfl⟩
abbrev main_v371 : Ref sig .tc := ⟨.hbm, 442, rfl⟩
abbrev main_v372 : Ref sig .tc := ⟨.hbm, 443, rfl⟩
abbrev main_v373 : Ref sig .tc := ⟨.hbm, 444, rfl⟩
abbrev main_v374 : Ref sig .tc := ⟨.hbm, 445, rfl⟩
abbrev main_v375 : Ref sig .tc := ⟨.hbm, 446, rfl⟩
abbrev main_v376 : Ref sig .tc := ⟨.hbm, 447, rfl⟩
abbrev main_v377 : Ref sig .tc := ⟨.hbm, 448, rfl⟩
abbrev main_v378 : Ref sig .tc := ⟨.hbm, 449, rfl⟩
abbrev main_v379 : Ref sig .tc := ⟨.hbm, 450, rfl⟩
abbrev main_v380 : Ref sig .tc := ⟨.hbm, 451, rfl⟩
abbrev main_c_60 : Ref sig .tc := ⟨.hbm, 452, rfl⟩
abbrev main_v381 : Ref sig .tc := ⟨.hbm, 453, rfl⟩
abbrev main_v382 : Ref sig .tc := ⟨.hbm, 454, rfl⟩
abbrev main_c_61 : Ref sig .tc := ⟨.hbm, 455, rfl⟩
abbrev main_v383 : Ref sig .tc := ⟨.hbm, 456, rfl⟩
abbrev main_v384 : Ref sig .tc := ⟨.hbm, 457, rfl⟩
abbrev main_v385 : Ref sig .tc := ⟨.hbm, 458, rfl⟩
abbrev main_c_62 : Ref sig .tc := ⟨.hbm, 459, rfl⟩
abbrev main_v386 : Ref sig .tc := ⟨.hbm, 460, rfl⟩
abbrev main_v387 : Ref sig .tc := ⟨.hbm, 461, rfl⟩
abbrev main_c_63 : Ref sig .tc := ⟨.hbm, 462, rfl⟩
abbrev main_v388 : Ref sig .tc := ⟨.hbm, 463, rfl⟩
abbrev main_v389 : Ref sig .tc := ⟨.hbm, 464, rfl⟩
abbrev main_v390 : Ref sig .tc := ⟨.hbm, 465, rfl⟩
abbrev main_v391 : Ref sig .tc := ⟨.hbm, 466, rfl⟩
abbrev main_v392 : Ref sig .tc := ⟨.hbm, 467, rfl⟩
abbrev main_v393 : Ref sig .tc := ⟨.hbm, 468, rfl⟩
abbrev main_cst_64 : Ref sig .tc := ⟨.hbm, 469, rfl⟩
abbrev main_v394 : Ref sig .tc := ⟨.hbm, 470, rfl⟩
abbrev main_v395 : Ref sig .tc := ⟨.hbm, 471, rfl⟩
abbrev main_cst_65 : Ref sig .tc := ⟨.hbm, 472, rfl⟩
abbrev main_v396 : Ref sig .tc := ⟨.hbm, 473, rfl⟩
abbrev main_cst_66 : Ref sig .tc := ⟨.hbm, 474, rfl⟩
abbrev main_v397 : Ref sig .tc := ⟨.hbm, 475, rfl⟩
abbrev main_v398 : Ref sig .tc := ⟨.hbm, 476, rfl⟩

abbrev nD : Nat := 1
abbrev τ : Topo := Topo.v7x

variable {F : FTy → Type} [FloatOps F]
-- ==== Proof.Lockstep.lean ====
/- Two straight-line host programs over two signatures, run side by side: when their operations agree one by one, the
   buffers they write agree. Nothing here is about one kernel. -/
module

public import Idealize.ShloMosaic.Lib.StableHlo
public import Idealize.ShloMosaic.Lib.StableHlo.Run
public import Idealize.ShloMosaic.Lib.Pipeline.Frame

@[expose] public section

namespace Cert.Lockstep

open Idealize.ShloMosaic Idealize.ShloMosaic.TcCoe Idealize.ShloMosaic.StableHlo

variable {τ τ' : Topo} {sig sig' : RefSig} {Val : EltTy → Type}

/-- Two references name the same position of the two programs' tensor values. -/
def Paired (x : Ref sig .tc) (x' : Ref sig' .tc) : Prop :=
  x.space = .hbm ∧ x'.space = .hbm ∧ x.idx.val = x'.idx.val

/-- The two memories hold the same contents in every pair of tensor values below position `n`. -/
def Agree (n : ℕ) (V : Valuation τ sig Val) (V' : Valuation τ' sig' Val) : Prop :=
  ∀ (x : Ref sig .tc) (x' : Ref sig' .tc), Paired x x' → x.idx.val < n →
    HEq (V (x : DevRef τ sig)) (V' (x' : DevRef τ' sig'))

/-- One operation of each program takes memories that agree below `n` to memories that agree below `n + 1`. -/
def Step (n : ℕ) (op : HloOp τ sig Val) (op' : HloOp τ' sig' Val) : Prop :=
  ∀ V V', Agree n V V' → Agree (n + 1) (op.result V) (op'.result V')

/-- A tensor value is determined by its position. -/
theorem ref_eq {σ : RefSig} {x y : Ref σ .tc} (hx : x.space = .hbm) (hy : y.space = .hbm) (h : x.idx.val = y.idx.val) :
    x = y := by
  obtain ⟨sx, ix, px⟩ := x
  obtain ⟨sy, iy, py⟩ := y
  dsimp only at hx hy h
  subst hx
  subst hy
  obtain rfl := Fin.ext h
  rfl

/-- An operation that writes one buffer leaves every other one as it was. -/
theorem result_ne {op : HloOp τ sig Val} {y r : Ref sig .tc} (hw : op.writes = {(y : DevRef τ sig)}) (hr : r ≠ y)
    (V : Valuation τ sig Val) : op.result V (r : DevRef τ sig) = V (r : DevRef τ sig) :=
  op.result_of_not_mem V (by
    rw [hw, Finset.mem_singleton]
    exact devRef_ne_of_ne hr)

/-- Two operations that write the paired values at position `n`, and write equal contents there, are a step. -/
theorem step_of {n : ℕ} {op : HloOp τ sig Val} {op' : HloOp τ' sig' Val} {y : Ref sig .tc} {y' : Ref sig' .tc}
    (hy : Paired y y') (hn : y.idx.val = n) (hw : op.writes = {(y : DevRef τ sig)})
    (hw' : op'.writes = {(y' : DevRef τ' sig')})
    (hv : ∀ V V', Agree n V V' → HEq (op.result V (y : DevRef τ sig)) (op'.result V' (y' : DevRef τ' sig'))) :
    Step n op op' := by
  intro V V' h x x' hx hlt
  by_cases hxy : x = y
  · subst hxy
    obtain rfl : x' = y' := ref_eq hx.2.1 hy.2.1 (hx.2.2.symm.trans hy.2.2)
    exact hv V V' h
  · have hne : x.idx.val ≠ n := fun e => hxy (ref_eq hx.1 hy.1 (e.trans hn.symm))
    have hxy' : x' ≠ y' := fun e => hxy (ref_eq hx.1 hy.1 (by rw [hx.2.2, hy.2.2, e]))
    rw [result_ne hw hxy V, result_ne hw' hxy' V']
    exact h x x' hx (by omega)

/-- Equal functions at equal arguments, across equal types. -/
theorem app_heq {A A' B B' : Type} (hA : A = A') (hB : B = B') {f : A → B} {f' : A' → B'} (hf : HEq f f') {a : A} {a' : A'}
    (ha : HEq a a') : HEq (f a) (f' a') := by
  subst hA
  subst hB
  cases hf
  cases ha
  rfl

/-- A constant is a step when the two constants are equal. -/
theorem nullary_step {n : ℕ} {y : Ref sig .tc} {y' : Ref sig' .tc} {v : y.ty.Contents Val} {v' : y'.ty.Contents Val} {hs hs'}
    (hy : Paired y y') (hn : y.idx.val = n) (hv : HEq v v') :
    Step n (nullary (τ := τ) y v hs) (nullary (τ := τ') y' v' hs') :=
  step_of hy hn rfl rfl fun V V' _ => by rw [nullary_result, nullary_result]; exact hv

/-- A one-operand operation is a step when the operands are paired and the functions equal. -/
theorem unary_step {n : ℕ} {x y : Ref sig .tc} {x' y' : Ref sig' .tc} {f : x.ty.Contents Val → y.ty.Contents Val}
    {f' : x'.ty.Contents Val → y'.ty.Contents Val} {h1 h2 h1' h2'} (hy : Paired y y') (hn : y.idx.val = n)
    (hx : Paired x x') (lx : x.idx.val < n) (tx : x.ty = x'.ty) (ty : y.ty = y'.ty) (hf : HEq f f') :
    Step n (unary (τ := τ) x y f h1 h2) (unary (τ := τ') x' y' f' h1' h2') :=
  step_of hy hn rfl rfl fun V V' h => by
    rw [unary_result, unary_result]
    exact app_heq (by rw [tx]) (by rw [ty]) hf (h x x' hx lx)

/-- A two-operand operation is a step when the operands are paired and the functions equal. -/
theorem binary_step {n : ℕ} {a b y : Ref sig .tc} {a' b' y' : Ref sig' .tc}
    {f : a.ty.Contents Val → b.ty.Contents Val → y.ty.Contents Val}
    {f' : a'.ty.Contents Val → b'.ty.Contents Val → y'.ty.Contents Val} {h1 h2 h3 h1' h2' h3'} (hy : Paired y y')
    (hn : y.idx.val = n) (ha : Paired a a') (la : a.idx.val < n) (hb : Paired b b') (lb : b.idx.val < n)
    (ta : a.ty = a'.ty) (tb : b.ty = b'.ty) (ty : y.ty = y'.ty) (hf : HEq f f') :
    Step n (binary (τ := τ) a b y f h1 h2 h3) (binary (τ := τ') a' b' y' f' h1' h2' h3') :=
  step_of hy hn rfl rfl fun V V' h => by
    rw [binary_result, binary_result]
    exact app_heq (by rw [tb]) (by rw [ty]) (app_heq (by rw [ta]) (by rw [tb, ty]) hf (h a a' ha la)) (h b b' hb lb)

/-- A three-operand operation is a step when the operands are paired and the functions equal. -/
theorem ternary_step {n : ℕ} {c a b y : Ref sig .tc} {c' a' b' y' : Ref sig' .tc}
    {f : c.ty.Contents Val → a.ty.Contents Val → b.ty.Contents Val → y.ty.Contents Val}
    {f' : c'.ty.Contents Val → a'.ty.Contents Val → b'.ty.Contents Val → y'.ty.Contents Val} {h1 h2 h3 h4 h1' h2' h3' h4'}
    (hy : Paired y y') (hn : y.idx.val = n) (hc : Paired c c') (lc : c.idx.val < n) (ha : Paired a a') (la : a.idx.val < n)
    (hb : Paired b b') (lb : b.idx.val < n)
    (tc : c.ty = c'.ty) (ta : a.ty = a'.ty) (tb : b.ty = b'.ty) (ty : y.ty = y'.ty) (hf : HEq f f') :
    Step n (ternary (τ := τ) c a b y f h1 h2 h3 h4) (ternary (τ := τ') c' a' b' y' f' h1' h2' h3' h4') :=
  step_of hy hn rfl rfl fun V V' h => by
    rw [ternary_result, ternary_result]
    exact app_heq (by rw [tb]) (by rw [ty])
      (app_heq (by rw [ta]) (by rw [tb, ty]) (app_heq (by rw [tc]) (by rw [ta, tb, ty]) hf (h c c' hc lc)) (h a a' ha la))
      (h b b' hb lb)

/-- An operation on a family of three operands is a step when the operands are paired and the two functions read the
    three members through equal functions. -/
theorem nary3_step {n : ℕ} {a b c y : Ref sig .tc} {a' b' c' y' : Ref sig' .tc}
    {f : ((k : Fin 3) → (![a, b, c] k : Ref sig .tc).ty.Contents Val) → y.ty.Contents Val}
    {f' : ((k : Fin 3) → (![a', b', c'] k : Ref sig' .tc).ty.Contents Val) → y'.ty.Contents Val} {h1 h2 h1' h2'}
    {g : a.ty.Contents Val → b.ty.Contents Val → c.ty.Contents Val → y.ty.Contents Val}
    {g' : a'.ty.Contents Val → b'.ty.Contents Val → c'.ty.Contents Val → y'.ty.Contents Val}
    (hy : Paired y y') (hn : y.idx.val = n) (ha : Paired a a') (la : a.idx.val < n) (hb : Paired b b') (lb : b.idx.val < n)
    (hc : Paired c c') (lc : c.idx.val < n) (ta : a.ty = a'.ty) (tb : b.ty = b'.ty) (tc : c.ty = c'.ty) (ty : y.ty = y'.ty)
    (hf' : ∀ u, f' u = g' (u 0) (u 1) (u 2)) (hg : HEq g g') (hf : ∀ u, f u = g (u 0) (u 1) (u 2)) :
    Step n (nary (τ := τ) ![a, b, c] y f h1 h2) (nary (τ := τ') ![a', b', c'] y' f' h1' h2') :=
  step_of hy hn rfl rfl fun V V' h => by
    rw [nary_result, nary_result, hf, hf']
    exact app_heq (by rw [tc]) (by rw [ty])
      (app_heq (by rw [tb]) (by rw [tc, ty]) (app_heq (by rw [ta]) (by rw [tb, tc, ty]) hg (h a a' ha la)) (h b b' hb lb))
      (h c c' hc lc)

/-- One array re-read at a shape, across equal types. -/
theorem reshape_heq {X X' Y Y' : BufTy} (tx : X = X') (ty : Y = Y') (he : X.elt = Y.elt) (he' : X'.elt = Y'.elt)
    (hn : X.shape.ShapeCasts Y.shape) (hn' : X'.shape.ShapeCasts Y'.shape) {u : X.Contents Val} {u' : X'.Contents Val}
    (h : HEq u u') :
    HEq (fun i => he ▸ shapeCast Y.shape u hn i : Y.Contents Val) (fun i => he' ▸ shapeCast Y'.shape u' hn' i : Y'.Contents Val) := by
  subst tx
  subst ty
  cases h
  rfl

/-- A reshape is a step when the operands are paired. -/
theorem reshape_step {n : ℕ} {x y : Ref sig .tc} {x' y' : Ref sig' .tc} {he hs h1 h2 he' hs' h1' h2'} (hy : Paired y y')
    (hn : y.idx.val = n) (hx : Paired x x') (lx : x.idx.val < n) (tx : x.ty = x'.ty) (ty : y.ty = y'.ty) :
    Step n (reshape (Val := Val) (τ := τ) x y he hs h1 h2) (reshape (Val := Val) (τ := τ') x' y' he' hs' h1' h2') :=
  step_of hy hn rfl rfl fun V V' h => by
    rw [reshape_result, reshape_result]
    exact reshape_heq tx ty he he' hs hs' (h x x' hx lx)

/-- From memories that agree below `n`, the two programs reach memories that agree below `k` with the programs `T` and `T'`
    left to run. -/
def Runs (n : ℕ) (L : List (HloOp τ sig Val)) (L' : List (HloOp τ' sig' Val)) (k : ℕ) (T : List (HloOp τ sig Val))
    (T' : List (HloOp τ' sig' Val)) : Prop :=
  ∀ V V', Agree n V V' → ∃ W W', Agree k W W' ∧ after L V = after T W ∧ after L' V' = after T' W'

/-- Nothing has run yet. -/
theorem Runs.refl {n : ℕ} {T : List (HloOp τ sig Val)} {T' : List (HloOp τ' sig' Val)} : Runs n T T' n T T' :=
  fun V V' h => ⟨V, V', h, rfl, rfl⟩

/-- A step, then the rest. -/
theorem Runs.cons {n k : ℕ} {op : HloOp τ sig Val} {op' : HloOp τ' sig' Val} {L T : List (HloOp τ sig Val)}
    {L' T' : List (HloOp τ' sig' Val)} (h : Step n op op') (hs : Runs (n + 1) L L' k T T') :
    Runs n (op :: L) (op' :: L') k T T' := fun V V' hV => by
  rw [after_cons, after_cons]
  exact hs _ _ (h V V' hV)

/-- Two stretches run to their ends, then the rest. -/
theorem Runs.append {n k j : ℕ} {L M T : List (HloOp τ sig Val)} {L' M' T' : List (HloOp τ' sig' Val)}
    (h : Runs n L L' k [] []) (hs : Runs k M M' j T T') : Runs n (L ++ M) (L' ++ M') j T T' := fun V V' hV => by
  obtain ⟨W, W', hW, e, e'⟩ := h V V' hV
  rw [after_append, after_append, e, e', after_nil, after_nil]
  exact hs W W' hW

end Cert.Lockstep
-- ==== Proof.Front.lean ====
/- The host operations of the two programs up to the atoms' coordinates are the same ones, so both compute the same
   coordinates. Proved by running the two lists side by side, without spelling out what the coordinates are. -/
module

public import proofs.«01_k».proof.Proof.Lockstep
public import proofs.«01_k».proof.Proof.Gen.KernelIdeal.Launch
public import proofs.«01_k».proof.Proof.Gen.ReferenceIdeal.Run

@[expose] public section

namespace Cert.Front

open Idealize.ShloMosaic Idealize.ShloMosaic.TcCoe Idealize.ShloMosaic.StableHlo Cert.Lockstep

variable {F : FTy → Type} [FloatOps F]

/-- The kernel's host operations after the coordinates: the layouts of the coordinates and of the charges. -/
abbrev kernelTail : List (HloOp KernelIdeal.τ KernelIdeal.sig (Elt F)) := KernelIdeal.Gen.main_part6_ops0.drop 43

/-- The reference's operations of its seventh stretch after the coordinates: the first part of the score. -/
abbrev referenceTail : List (HloOp ReferenceIdeal.τ ReferenceIdeal.sig (Elt F)) := ReferenceIdeal.Value.ops_part6.drop 43

set_option maxRecDepth 8192 in
set_option maxHeartbeats 40000000 in
/-- Up to the coordinates (position 409 of the tensor values) the two programs run in step. -/
theorem runs : Runs 7
    (KernelIdeal.Gen.main_part0_ops0 (F := F) ++ (KernelIdeal.Gen.main_part1_ops0 ++ (KernelIdeal.Gen.main_part2_ops0 ++
      (KernelIdeal.Gen.main_part3_ops0 ++ (KernelIdeal.Gen.main_part4_ops0 ++ (KernelIdeal.Gen.main_part5_ops0 ++
        KernelIdeal.Gen.main_part6_ops0))))))
    (ReferenceIdeal.Value.ops_part0 (F := F) ++ (ReferenceIdeal.Value.ops_part1 ++ (ReferenceIdeal.Value.ops_part2 ++
      (ReferenceIdeal.Value.ops_part3 ++ (ReferenceIdeal.Value.ops_part4 ++ (ReferenceIdeal.Value.ops_part5 ++
        ReferenceIdeal.Value.ops_part6))))))
    410 kernelTail referenceTail := by
  refine Runs.append (k := 67) ?_ (Runs.append (k := 127) ?_ (Runs.append (k := 187) ?_ (Runs.append (k := 247) ?_
    (Runs.append (k := 307) ?_ (Runs.append (k := 367) ?_ ?_)))))
  case' refine_1 => unfold ReferenceIdeal.Value.ops_part0
  case' refine_2 => unfold ReferenceIdeal.Value.ops_part1
  case' refine_3 => unfold ReferenceIdeal.Value.ops_part2
  case' refine_4 => unfold ReferenceIdeal.Value.ops_part3
  case' refine_5 => unfold ReferenceIdeal.Value.ops_part4
  case' refine_6 => unfold ReferenceIdeal.Value.ops_part5
  case' refine_7 => unfold kernelTail referenceTail ReferenceIdeal.Value.ops_part6
  all_goals simp only [List.cons_append, List.nil_append, List.drop_succ_cons, List.drop_zero]
  all_goals
    repeat
      refine Runs.cons ?_ ?_
      · first
          | with_reducible apply unary_step
          | with_reducible apply binary_step
          | with_reducible apply nullary_step
          | with_reducible apply ternary_step
          | with_reducible apply reshape_step
          | with_reducible apply nary3_step
        all_goals first | exact ⟨rfl, rfl, rfl⟩ | exact rfl | exact HEq.rfl | decide | exact fun _ => rfl
  all_goals exact Runs.refl

end Cert.Front
-- ==== Proof.Point.lean ====
/- What one grid point of the kernel leaves in its one-word output. -/
module

public import proofs.«01_k».proof.Proof.Gen.KernelIdeal.Frame
public import Idealize.ShloMosaic.Lib.Pipeline.Value
public import Idealize.ShloMosaic.Lib.Tactic
public import Idealize.ShloMosaic.Lib.Pointwise

@[expose] public section

noncomputable section

namespace Cert.Point

open Idealize.ShloMosaic Idealize.ShloMosaic.TcCoe Idealize.SL.Sem
open Cert.KernelIdeal Cert.KernelIdeal.Gen

variable {F : FTy → Type} [FloatOps F]

/-- The offsets of a whole two-axis block. -/
theorem off2 : (![0, 0] : Fin 2 → Nat) = fun _ => 0 := funext fun a => by fin_cases a <;> rfl

/-- The offsets of a whole three-axis block. -/
theorem off3 : (![0, 0, 0] : Fin 3 → Nat) = fun _ => 0 := funext fun a => by fin_cases a <;> rfl

/-- The word that the body stores at grid point `i` over the four input blocks, the output's word being `acc` before. -/
def word (i : grid0.Coords) (x0 : Vec F S512x3 .f32) (x1 : Vec F S512x1 .f32) (x2 : Vec F S1x3x128 .f32)
    (x3 : Vec F S1x1x128 .f32) (acc : F .f32) : F .f32 :=
  k0_pay1 i (k0_pay3 x0 x2) (k0_pay4 x1 x3) (k0_pay5 x0 x2) acc

/-- A point that adds to what the point before left: its word over that word. -/
theorem out_B (c : Dev nD) (i : grid0.Coords) (a2 : Memref sig .tc .vmem S512x3 .f32) (h2 : a2.IsWhole)
    (a3 : Memref sig .tc .vmem S512x1 .f32) (h3 : a3.IsWhole) (a4 : Memref sig .tc .vmem S1x3x128 .f32) (h4 : a4.IsWhole)
    (a5 : Memref sig .tc .vmem S1x1x128 .f32) (h5 : a5.IsWhole) (a6 : Memref sig .tc .smem S1x1 .f32) (h6 : a6.IsWhole)
    (hc0 : ¬cond0_0 i) (hc1 : cond0_1 i)
    (x0 : Vec F S512x3 .f32) (x1 : Vec F S512x1 .f32) (x2 : Vec F S1x3x128 .f32) (x3 : Vec F S1x1x128 .f32) (xo : Vec F S1x1 .f32) :
    out0_B_4 c i a2 h2 a3 h3 a4 h4 a5 h5 a6 h6 hc0 hc1 x0 x1 x2 x3 xo = fun _ => word i x0 x1 x2 x3 (xo (ix2 0 0)) := by
  unfold out0_B_4
  rw [View.read_writes_eq_canon _ _ _ (cover0_B_4 c i a2 h2 a3 h3 a4 h4 a5 h5 a6 h6 hc0 hc1 x0 x1 x2 x3 xo)]
  unfold kernelRun0_B
  dsimp only
  rw [View.canon_unit_zero off2]
  sl_unfold_words
  simp only [View.readAt_eq_ld, h2.read_unread, h3.read_unread, h4.read_unread, h5.read_unread, h6.read_unread,
    View.ld_unit_zero (S := S512x3) off2, View.ld_unit_zero (S := S512x1) off2, View.ld_unit_zero (S := S1x3x128) off3,
    View.ld_unit_zero (S := S1x1x128) off3, View.ld_unit_zero (S := S1x1) off2]
  funext x
  exact congrArg (word i x0 x1 x2 x3) (congrArg xo (funext fun a => by fin_cases a <;> rfl))

/-- The first point: its word over zero. -/
theorem out_A (c : Dev nD) (i : grid0.Coords) (a2 : Memref sig .tc .vmem S512x3 .f32) (h2 : a2.IsWhole)
    (a3 : Memref sig .tc .vmem S512x1 .f32) (h3 : a3.IsWhole) (a4 : Memref sig .tc .vmem S1x3x128 .f32) (h4 : a4.IsWhole)
    (a5 : Memref sig .tc .vmem S1x1x128 .f32) (h5 : a5.IsWhole) (a6 : Memref sig .tc .smem S1x1 .f32) (h6 : a6.IsWhole)
    (hc0 : cond0_0 i) (hc1 : cond0_1 i)
    (x0 : Vec F S512x3 .f32) (x1 : Vec F S512x1 .f32) (x2 : Vec F S1x3x128 .f32) (x3 : Vec F S1x1x128 .f32) :
    out0_A_4 c i a2 h2 a3 h3 a4 h4 a5 h5 a6 h6 hc0 hc1 x0 x1 x2 x3
      = fun _ => word i x0 x1 x2 x3 (Scalar.ofBits .f32 0x00000000#32) := by
  unfold out0_A_4
  rw [View.read_writes_eq_canon _ _ _ (cover0_A_4 c i a2 h2 a3 h3 a4 h4 a5 h5 a6 h6 hc0 hc1 x0 x1 x2 x3)]
  unfold kernelRun0_A
  dsimp only
  sl_unfold_words
  rw [View.canon_cons_unit_zero (S := S1x1) off2]
  simp only [View.readAt_eq_ld, h2.read_unread, h3.read_unread, h4.read_unread, h5.read_unread, h6.read_unread,
    View.ld_unit_zero (S := S512x3) off2, View.ld_unit_zero (S := S512x1) off2, View.ld_unit_zero (S := S1x3x128) off3,
    View.ld_unit_zero (S := S1x1x128) off3]
  rfl

end Cert.Point
-- ==== Proof.Energy.lean ====
/- The energy of a pair of atoms, and the sum over all pairs, over the extended reals. -/
module

public import Idealize.ShloMosaic.Lib.IdealHost
public import Idealize.ShloMosaic.Lib.Pipeline.ValueKit

@[expose] public section

noncomputable section

namespace Cert.Energy

open Idealize.ShloMosaic

/-- The squared length of a position. -/
def len (u : Fin 3 → EReal) : EReal := ∑ k, u k * u k

/-- The inner product of two positions. -/
def dot (u v : Fin 3 → EReal) : EReal := ∑ k, u k * v k

/-- The squared distance of two positions, by lengths and inner product, kept above a small constant. -/
def gap (u v : Fin 3 → EReal) : EReal :=
  max (len u + len v - Ideal.ofBits .f32 0x40000000#32 * dot u v) (Ideal.ofBits .f32 0x3C23D70A#32)

/-- The scaled inverse of the squared distance. -/
def ratio (u v : Fin 3 → EReal) : EReal := Ideal.ofBits .f32 0x3F9AE148#32 * Ideal.div 1 (gap u v)

/-- The cube of the scaled inverse. -/
def cube (u v : Fin 3 → EReal) : EReal := ratio u v * ratio u v * ratio u v

/-- The energy of an atom at `u` of charge `p` and an atom at `v` of charge `r`. -/
def energy (u : Fin 3 → EReal) (p : EReal) (v : Fin 3 → EReal) (r : EReal) : EReal :=
  Ideal.ofBits .f32 0x3F4CCCCD#32 * (cube u v * cube u v - cube u v) + p * r * Ideal.rsqrt (gap u v)

/-- The squared distance does not depend on which position comes first. -/
theorem gap_comm (u v : Fin 3 → EReal) : gap u v = gap v u := by
  unfold gap dot
  rw [add_comm (len u), Finset.sum_congr rfl fun k _ => mul_comm (u k) (v k)]

/-- The energy of a pair does not depend on which atom comes first. -/
theorem energy_comm (u : Fin 3 → EReal) (p : EReal) (v : Fin 3 → EReal) (r : EReal) : energy u p v r = energy v r u p := by
  unfold energy cube ratio
  rw [gap_comm u v, mul_comm p r]

/-- The energies of all ordered pairs of `4096` atoms, at positions `p` and of charges `q`, as a table over the naturals. -/
def table (p : Fin 4096 → Fin 3 → EReal) (q : Fin 4096 → EReal) (a b : ℕ) : EReal :=
  energy (p (Fin.ofNat 4096 a)) (q (Fin.ofNat 4096 a)) (p (Fin.ofNat 4096 b)) (q (Fin.ofNat 4096 b))

/-- The sum over the ordered pairs `a < b` of a table of `n` rows and columns. -/
def upper (n : ℕ) (g : ℕ → ℕ → EReal) : EReal := ∑ a ∈ Finset.range n, ∑ b ∈ Finset.range n, if a < b then g a b else 0

/-- Over a symmetric table, the sum off the diagonal is twice the sum above it. -/
theorem off_diagonal (n : ℕ) (g : ℕ → ℕ → EReal) (h : ∀ a b, g a b = g b a) :
    (∑ a ∈ Finset.range n, ∑ b ∈ Finset.range n, if a = b then 0 else g a b) = upper n g + upper n g := by
  have swap : upper n g = ∑ a ∈ Finset.range n, ∑ b ∈ Finset.range n, if b < a then g a b else 0 := by
    unfold upper
    rw [Finset.sum_comm]
    exact Finset.sum_congr rfl fun a _ => Finset.sum_congr rfl fun b _ => by rw [h]
  conv_rhs => rw [swap]; arg 1; rw [← swap]
  unfold upper
  rw [← Finset.sum_add_distrib]
  refine Finset.sum_congr rfl fun a _ => ?_
  rw [← Finset.sum_add_distrib]
  refine Finset.sum_congr rfl fun b _ => ?_
  rcases lt_trichotomy a b with hab | hab | hab
  · rw [if_neg (by omega), if_pos hab, if_neg (by omega), add_zero]
  · rw [if_pos hab, if_neg (by omega), if_neg (by omega), add_zero]
  · rw [if_neg (by omega), if_neg (by omega), if_pos hab, zero_add]

/-- Half of twice an extended real is that extended real, at the infinities too. -/
theorem half_double (s : EReal) : Ideal.ofBits .f32 0x3F000000#32 * (s + s) = s := by
  have half : Ideal.ofBits .f32 0x3F000000#32 = ((1 / 2 : ℝ) : EReal) := by
    simp [Ideal.ofBits, Ideal.ieee, -EReal.coe_mul]
    norm_num
  rw [half]
  induction s with
  | bot => rw [EReal.bot_add, EReal.coe_mul_bot_of_pos (by norm_num)]
  | top => rw [EReal.top_add_top, EReal.coe_mul_top_of_pos (by norm_num)]
  | coe x => rw [← EReal.coe_add, ← EReal.coe_mul]; congr 1; ring

/-- The sum above the diagonal, tile by tile: `A` tile rows of `R` rows by `B` tile columns of `L` columns, walked row by row, a tile
    left out only when none of its places lies above the diagonal. -/
theorem upper_tiles (A R B L n : ℕ) (hR : A * R = n) (hL : B * L = n) (g : ℕ → ℕ → EReal) (run : ℕ → ℕ → Prop) [∀ i j, Decidable (run i j)]
    (hrun : ∀ i j r l, r < R → l < L → i * R + r < j * L + l → run i j) :
    (∑ t ∈ Finset.range (A * B), if run (t / B) (t % B) then
        ∑ r ∈ Finset.range R, ∑ l ∈ Finset.range L,
          if t / B * R + r < t % B * L + l then g (t / B * R + r) (t % B * L + l) else 0
      else 0) = upper n g := by
  rw [Finset.sum_range_mul_divmod A B fun i j => if run i j then
    ∑ r ∈ Finset.range R, ∑ l ∈ Finset.range L, if i * R + r < j * L + l then g (i * R + r) (j * L + l) else 0 else 0]
  unfold upper
  conv_rhs => rw [← hR, Finset.sum_range_mul_split]
  refine Finset.sum_congr rfl fun i _ => ?_
  conv_rhs => enter [2, r]; rw [hR, ← hL, Finset.sum_range_mul_split]
  rw [Finset.sum_comm]
  refine Finset.sum_congr rfl fun j _ => ?_
  split
  · rfl
  · next h =>
    refine (Finset.sum_eq_zero fun r hr => Finset.sum_eq_zero fun l hl => if_neg fun hlt => h ?_).symm
    exact hrun i j r l (Finset.mem_range.mp hr) (Finset.mem_range.mp hl) hlt

end Cert.Energy
-- ==== Proof.Tile.lean ====
/- The word that a grid point stores, over the extended reals: the word before, plus the tile's sum. -/
module

public import proofs.«01_k».proof.Proof.Point
public import proofs.«01_k».proof.Proof.Energy
public import Idealize.ShloMosaic.Lib.WordCmp

@[expose] public section

set_option maxRecDepth 16384

noncomputable section

namespace Cert.Point

open Idealize.ShloMosaic Idealize.ShloMosaic.TcCoe Idealize.SL.Sem
open Cert.KernelIdeal Cert.KernelIdeal.Gen Cert.Energy

/-- The mask of a tile at a place: whether the row's number is below the column's. -/
theorem mask_eq (i : grid0.Coords) (r : Fin 512) (l : Fin 128) (x : EReal) :
    Scalar.select (IntOp.cmpi .slt (IntOp.addi (Scalar.muli 512#32 (BitVec.ofNat 32 (i 0).val)) (BitVec.ofNat 32 r.val))
        (IntOp.addi (Scalar.muli 128#32 (BitVec.ofNat 32 (i 1).val)) (BitVec.ofNat 32 l.val))) x 0
      = if (i 0).val * 512 + r.val < (i 1).val * 128 + l.val then x else 0 := by
  have hi : (i 0).val < 8 := (i 0).isLt
  have hj : (i 1).val < 32 := (i 1).isLt
  have hr := r.isLt
  have hl := l.isLt
  have hrow : IntOp.addi (Scalar.muli 512#32 (BitVec.ofNat 32 (i 0).val)) (BitVec.ofNat 32 r.val)
      = BitVec.ofNat 32 ((i 0).val * 512 + r.val) := by
    show 512#32 * BitVec.ofNat 32 (i 0).val + BitVec.ofNat 32 r.val = _
    rw [← BitVec.ofNat_mul, ← BitVec.ofNat_add, Nat.mul_comm 512]
  have hcol : IntOp.addi (Scalar.muli 128#32 (BitVec.ofNat 32 (i 1).val)) (BitVec.ofNat 32 l.val)
      = BitVec.ofNat 32 ((i 1).val * 128 + l.val) := by
    show 128#32 * BitVec.ofNat 32 (i 1).val + BitVec.ofNat 32 l.val = _
    rw [← BitVec.ofNat_mul, ← BitVec.ofNat_add, Nat.mul_comm 128]
  rw [hrow, hcol, WordCmp.cmpi_slt_ofNat (by omega) (by omega), WordCmp.select_decide]

/-- The unmasked value of a tile at a place: the energy of the row's atom and the column's. -/
theorem value_eq (x0 : Vec Ideal S512x3 .f32) (x1 : Vec Ideal S512x1 .f32) (x2 : Vec Ideal S1x3x128 .f32)
    (x3 : Vec Ideal S1x1x128 .f32) (r : Fin 512) (l : Fin 128) :
    Ideal.ofBits .f32 0x3F4CCCCD#32 * k0_pay5 (F := Ideal) x0 x2 (ix2 r l) + k0_pay4 (F := Ideal) x1 x3 (ix2 r l) * k0_pay3 (F := Ideal) x0 x2 (ix2 r l)
      = energy (fun k => x0 (ix2 r k)) (x1 (ix2 r 0)) (fun k => x2 (ix3 0 k l)) (x3 (ix3 0 0 l)) := by
  have hgap : k0_pay2 (F := Ideal) x0 x2 (ix2 r l) = gap (fun k => x0 (ix2 r k)) (fun k => x2 (ix3 0 k l)) := by
    pointwise [k0_pay2]
    unfold gap len dot
    rw [Fin.sum_univ_three (fun k => x0 (ix2 r k) * x0 (ix2 r k)), Fin.sum_univ_three (fun k => x2 (ix3 0 k l) * x2 (ix3 0 k l))]
  have hwell : k0_pay5 (F := Ideal) x0 x2 (ix2 r l)
      = cube (fun k => x0 (ix2 r k)) (fun k => x2 (ix3 0 k l)) * cube (fun k => x0 (ix2 r k)) (fun k => x2 (ix3 0 k l))
        - cube (fun k => x0 (ix2 r k)) (fun k => x2 (ix3 0 k l)) := by
    unfold cube ratio
    pointwise [k0_pay5]
    rw [hgap]
  have hroot : k0_pay3 (F := Ideal) x0 x2 (ix2 r l) = Ideal.rsqrt (gap (fun k => x0 (ix2 r k)) (fun k => x2 (ix3 0 k l))) := by
    pointwise [k0_pay3]
    rw [hgap]
  have hq : k0_pay4 (F := Ideal) x1 x3 (ix2 r l) = x1 (ix2 r 0) * x3 (ix3 0 0 l) := by
    pointwise [k0_pay4]
  rw [hwell, hroot, hq]
  rfl

/-- The word a point stores: the word before, plus the energies of the tile's places above the diagonal. -/
theorem word_eq (i : grid0.Coords) (x0 : Vec Ideal S512x3 .f32) (x1 : Vec Ideal S512x1 .f32) (x2 : Vec Ideal S1x3x128 .f32)
    (x3 : Vec Ideal S1x1x128 .f32) (acc : EReal) :
    word (F := Ideal) i x0 x1 x2 x3 acc = acc + ∑ r : Fin 512, ∑ l : Fin 128, if (i 0).val * 512 + r.val < (i 1).val * 128 + l.val then
      energy (fun k => x0 (ix2 r k)) (x1 (ix2 r 0)) (fun k => x2 (ix3 0 k l)) (x3 (ix3 0 0 l)) else 0 := by
  unfold word
  pointwise [k0_pay1]
  refine congrArg (acc + ·) (Finset.sum_congr rfl fun r _ => Finset.sum_congr rfl fun l _ => ?_)
  rw [← value_eq]
  exact mask_eq i r l _

end Cert.Point
-- ==== Proof.Blocks.lean ====
/- What the kernel's four input windows read at a grid point, place by place. -/
module

public import proofs.«01_k».proof.Proof.Tile

@[expose] public section

set_option maxRecDepth 16384

noncomputable section

namespace Cert.Point

open Idealize.ShloMosaic Idealize.ShloMosaic.TcCoe Idealize.SL.Sem
open Cert.KernelIdeal Cert.KernelIdeal.Gen Cert.Energy

variable (m : (ℓ : Loc nD τ sig) → Buf (Elt Ideal) ℓ) (c : Dev nD)

/-- The grid's two coordinates at a point. -/
theorem coords_eq : ∀ t : Fin cfg0.N, (grid0.coords t 0).val = t.val / 32 ∧ (grid0.coords t 1).val = t.val % 32 := by
  decide +kernel

/-- The blocks that the four input windows read at a point. -/
theorem index_eq : ∀ t : Fin cfg0.N, win0_0.index t = ![t.val / 32, 0] ∧ win0_1.index t = ![t.val / 32, 0]
    ∧ win0_2.index t = ![t.val % 32, 0, 0] ∧ win0_3.index t = ![t.val % 32, 0, 0] := by
  decide +kernel

/-- A row of a point's block has its number below 4096. -/
theorem row_lt (t : Fin cfg0.N) (r : Fin 512) : t.val / 32 * 512 + r.val < 4096 := by
  have : cfg0.N = 256 := N_0
  have := t.isLt
  omega

/-- A place of the row positions' block at a point. -/
theorem block0 (t : Fin cfg0.N) (r : Fin 512) (k : Fin 3) :
    iblk m c 0 t (ix2 r k) = V m c main_v346 (ix2 ⟨t.val / 32 * 512 + r.val, row_lt t r⟩ k) := by
  blk_ext [iblk, (index_eq t).1]

/-- A place of the row charges' block at a point. -/
theorem block1 (t : Fin cfg0.N) (r : Fin 512) :
    iblk m c 1 t (ix2 r 0) = V m c main_v350 (ix2 ⟨t.val / 32 * 512 + r.val, row_lt t r⟩ 0) := by
  blk_ext [iblk, (index_eq t).2.1]

/-- A place of the column positions' block at a point. -/
theorem block2 (t : Fin cfg0.N) (k : Fin 3) (l : Fin 128) :
    iblk m c 2 t (ix3 0 k l) = V m c main_v349 (ix3 ⟨t.val % 32, Nat.mod_lt _ (by decide)⟩ k l) := by
  blk_ext [iblk, (index_eq t).2.2.1]

/-- A place of the column charges' block at a point. -/
theorem block3 (t : Fin cfg0.N) (l : Fin 128) :
    iblk m c 3 t (ix3 0 0 l) = V m c main_v351 (ix3 ⟨t.val % 32, Nat.mod_lt _ (by decide)⟩ 0 l) := by
  blk_ext [iblk, (index_eq t).2.2.2]

end Cert.Point
-- ==== Proof.Sum.lean ====
/- What the kernel's output holds after its grid: the sum of the energies of all pairs `a < b`. -/
module

public import proofs.«01_k».proof.Proof.Blocks

@[expose] public section

set_option maxRecDepth 16384

noncomputable section

namespace Cert.Point

open Idealize.ShloMosaic Idealize.ShloMosaic.TcCoe Idealize.SL.Sem
open Cert.KernelIdeal Cert.KernelIdeal.Gen Cert.Energy

variable (m : (ℓ : Loc nD τ sig) → Buf (Elt Ideal) ℓ) (c : Dev nD)

/-- What the four input arrays hold when the grid starts, in terms of the atoms' positions `p` and charges `q`: rows as they are, columns
    in 32 groups of 128. -/
structure Inputs (p : Fin 4096 → Fin 3 → EReal) (q : Fin 4096 → EReal) : Prop where
  rows : ∀ a k, V m c main_v346 (ix2 a k) = p a k
  rowCharges : ∀ a, V m c main_v350 (ix2 a 0) = q a
  columns : ∀ (j : Fin 32) (k : Fin 3) (l : Fin 128), V m c main_v349 (ix3 j k l) = p (Fin.ofNat 4096 (j.val * 128 + l.val)) k
  columnCharges : ∀ (j : Fin 32) (l : Fin 128), V m c main_v351 (ix3 j 0 l) = q (Fin.ofNat 4096 (j.val * 128 + l.val))

/-- What grid point `t` adds to the output: the energies of its tile's pairs above the diagonal, if the tile is one that runs. -/
def term (p : Fin 4096 → Fin 3 → EReal) (q : Fin 4096 → EReal) (t : ℕ) : EReal :=
  if 4 * (t / 32) ≤ t % 32 then
    ∑ r ∈ Finset.range 512, ∑ l ∈ Finset.range 128,
      if t / 32 * 512 + r < t % 32 * 128 + l then table p q (t / 32 * 512 + r) (t % 32 * 128 + l) else 0
  else 0

variable {m c} {p : Fin 4096 → Fin 3 → EReal} {q : Fin 4096 → EReal} (h : Inputs m c p q)
include h

/-- The word of a point whose tile runs: the word before, plus the point's term. -/
theorem word_term (t : Fin cfg0.N) (ht : 4 * (t.val / 32) ≤ t.val % 32) (acc : EReal) :
    word (F := Ideal) (grid0.coords t) (iblk m c 0 t) (iblk m c 1 t) (iblk m c 2 t) (iblk m c 3 t) acc = acc + term p q t.val := by
  rw [word_eq, (coords_eq t).1, (coords_eq t).2]
  unfold term
  rw [if_pos ht, ← Fin.sum_univ_eq_sum_range fun r => ∑ l ∈ Finset.range 128,
    if t.val / 32 * 512 + r < t.val % 32 * 128 + l then table p q (t.val / 32 * 512 + r) (t.val % 32 * 128 + l) else 0]
  refine congrArg (acc + ·) (Finset.sum_congr rfl fun r _ => ?_)
  rw [← Fin.sum_univ_eq_sum_range fun l =>
    if t.val / 32 * 512 + r.val < t.val % 32 * 128 + l then table p q (t.val / 32 * 512 + r.val) (t.val % 32 * 128 + l) else 0]
  refine Finset.sum_congr rfl fun l _ => ?_
  have hrow : Fin.ofNat 4096 (t.val / 32 * 512 + r.val) = ⟨t.val / 32 * 512 + r.val, row_lt t r⟩ :=
    Fin.ext (Nat.mod_eq_of_lt (row_lt t r))
  unfold table
  rw [hrow, block1, block3, h.rowCharges, h.columnCharges]
  simp only [block0, block2, h.rows, h.columns]

/-- The output's word after point `t`: the terms of the points up to it. -/
theorem outs_eq (t : Fin cfg0.N) (i : S1x1.Idx) :
    outsAt0 m c t.val t.isLt i = 0 + ∑ k ∈ Finset.range (t.val + 1), term p q k := by
  have hN : cfg0.N = 256 := N_0
  refine Pipeline.eq_sum_of_reset_step_apply_single (fun n hn => outsAt0 m c n hn) 256 (fun _ => (0 : EReal)) (fun n _ => term p q n)
    (fun t h0 i => ?_) (fun t h0 i => ?_) hN.le t i
  · have := t.isLt
    rw [outsAt0_A m c t h0 (by omega), out_A]
    show word (F := Ideal) _ _ _ _ _ _ = _
    rw [word_term h t (by omega), show FloatOps.ofBits (F := Ideal) .f32 0x00000000#32 = 0 from Ideal.ofBits_zero_f32]
  · have := t.isLt
    by_cases h1 : 4 * (t.val / 32 % 8) ≤ t.val % 32
    · rw [outsAt0_B m c t h0 h1, out_B]
      show word (F := Ideal) _ _ _ _ _ _ = _
      rw [word_term h t (by omega)]
      exact congrArg (· + term p q t.val) (congrArg (outsAt0 m c (t.val - 1) _) (funext fun a => by fin_cases a <;> exact Subsingleton.elim (α := Fin 1) _ _))
    · rw [outsAt0_C m c t h0 h1]
      unfold out0_C_4 term
      rw [if_neg (by omega), add_zero]

/-- The output's word after the last point: the sum of the energies of all pairs `a < b`. -/
theorem outs_last (t : Fin cfg0.N) (ht : t.val = 255) (i : S1x1.Idx) : outsAt0 m c t.val t.isLt i = upper 4096 (table p q) := by
  have e : t.val + 1 = 8 * 32 := by omega
  rw [outs_eq h t i, zero_add, e,
    ← upper_tiles 8 512 32 128 4096 rfl rfl (table p q) (fun i j => 4 * i ≤ j) fun i j r l hr hl hlt => by omega]
  exact Finset.sum_congr rfl fun t _ => by unfold term; rfl

omit h in
/-- Some grid point is the last one, and its output block is the whole output. -/
theorem last_whole : ∃ t : Fin cfg0.N, t.val = 255 ∧ (cfg0.win 4).WholeAt t :=
  ⟨⟨255, by decide⟩, rfl, by decide +kernel⟩

/-- The output after the grid: the sum of the energies of all pairs `a < b`. -/
theorem final : (dats m 0 c).arrAt 4 cfg0.N = fun _ => upper 4096 (table p q) := by
  obtain ⟨t, ht, hw⟩ := last_whole
  refine (dats m 0 c).arrAt_eq_of_after_last 4 t hw _ fun j => ?_
  rw [after0_4]
  exact (cast_eq _ _).trans (outs_last h t ht _)

end Cert.Point
-- ==== Proof.Layout.lean ====
/- The kernel's four input arrays, as the host operations before the grid lay them out from the coordinates and the charges. -/
module

public import proofs.«01_k».proof.Proof.Front
public import proofs.«01_k».proof.Proof.Sum

@[expose] public section

set_option maxRecDepth 16384

noncomputable section

namespace Cert.Layout

open Idealize.ShloMosaic Idealize.ShloMosaic.TcCoe Idealize.ShloMosaic.StableHlo Idealize.SL.Sem
open Cert.KernelIdeal Cert.KernelIdeal.Gen Cert.Front Cert.Point

variable (W : Valuation τ sig (Elt Ideal))

/-- The layouts leave the coordinates and the charges as they were. -/
theorem tail_keeps : after kernelTail W (main_v346 : DevRef τ sig) = W (main_v346 : DevRef τ sig)
    ∧ after kernelTail W (main_arg3 : DevRef τ sig) = W (main_arg3 : DevRef τ sig) := by
  unfold kernelTail
  simp only [List.drop_succ_cons, List.drop_zero]
  constructor
  · after_results_simp
  · after_results_simp

/-- The column of charges. -/
theorem tail_rowCharges (a : Fin 4096) :
    after kernelTail W (main_v350 : DevRef τ sig) (ix2 a 0) = W (main_arg3 : DevRef τ sig) (ix1 a) := by
  unfold kernelTail
  simp only [List.drop_succ_cons, List.drop_zero]
  after_results_simp
  pointwise []

/-- Column `l` of group `j` has its number below 4096. -/
theorem group_eq (j : Fin 32) (l : Fin 128) :
    (⟨j.val * 128 + l.val, by omega⟩ : Fin 4096) = Fin.ofNat 4096 (j.val * 128 + l.val) :=
  Fin.ext (Nat.mod_eq_of_lt (by omega)).symm

/-- The coordinates in groups of 128 columns. -/
theorem tail_columns (j : Fin 32) (k : Fin 3) (l : Fin 128) :
    after kernelTail W (main_v349 : DevRef τ sig) (ix3 j k l)
      = W (main_v346 : DevRef τ sig) (ix2 (Fin.ofNat 4096 (j.val * 128 + l.val)) k) := by
  unfold kernelTail
  simp only [List.drop_succ_cons, List.drop_zero]
  after_results_simp
  pointwise []
  exact congrArg (fun n => W (main_v346 : DevRef τ sig) (ix2 n k)) (group_eq j l)

/-- The charges in groups of 128. -/
theorem tail_columnCharges (j : Fin 32) (l : Fin 128) :
    after kernelTail W (main_v351 : DevRef τ sig) (ix3 j 0 l)
      = W (main_arg3 : DevRef τ sig) (ix1 (Fin.ofNat 4096 (j.val * 128 + l.val))) := by
  unfold kernelTail
  simp only [List.drop_succ_cons, List.drop_zero]
  after_results_simp
  pointwise []
  exact congrArg (fun n => W (main_arg3 : DevRef τ sig) (ix1 n)) (group_eq j l)

/-- Memories that agree with the launch before the layouts, so that the grid's inputs are the layouts of their coordinates
    and charges. -/
theorem inputs (m : (ℓ : Loc nD τ sig) → Buf (Elt Ideal) ℓ) (c : Dev nD)
    (h : ∀ b : Ref sig .tc, V m c b = after kernelTail W (b : DevRef τ sig)) :
    Inputs m c (fun a k => W (main_v346 : DevRef τ sig) (ix2 a k)) (fun a => W (main_arg3 : DevRef τ sig) (ix1 a)) where
  rows a k := by rw [h, (tail_keeps W).1]
  rowCharges a := by rw [h]; exact tail_rowCharges W a
  columns j k l := by rw [h]; exact tail_columns W j k l
  columnCharges j l := by rw [h]; exact tail_columnCharges W j l

end Cert.Layout
-- ==== Proof.Diagonal.lean ====
/- The scatter by which the reference clears the diagonal of its table, read at a place. -/
module

public import proofs.«01_k».proof.Proof.Gen.ReferenceIdeal.Run
public import Idealize.ShloMosaic.Lib.Pointwise
public import Idealize.ShloMosaic.Lib.Routing.OpsSet

@[expose] public section

namespace Cert.Diagonal

open Idealize.ShloMosaic Idealize.ShloMosaic.Routing Cert.ReferenceIdeal

/-- The scatter's dimension record: scalar updates, two index words each. -/
abbrev dims : ScatterDims S4096x4096 S4096x2 S4096 := scatter_S4096x4096_S4096x2_S4096_n_01_01_1

/-- Along axis `q` update `k` starts at the `q`-th of its two index words, read signed. -/
theorem start_eq (k : Fin 4096) (idx : IVec S4096x2 32) (q : Fin 2) : dims.start (ix1 k) idx q = (idx (ix2 k q)).toInt := by
  have hm : q ∈ dims.scatterDimsToOperandDims := by
    show q ∈ ([0, 1] : List (Fin 2))
    fin_cases q <;> simp
  unfold ScatterDims.start
  rw [dif_pos hm]
  refine congrArg (fun y => (idx y).toInt) (funext fun a => Fin.ext ?_)
  fin_cases a
  · rfl
  · fin_cases q <;> rfl

/-- An update is a single word: it has no extent along either axis. -/
theorem window_eq (k : Fin 4096) (q : Fin 2) : dims.window (ix1 k) q = 0 := by
  fin_cases q <;> rfl

/-- Where the `k`-th pair of index words is `(k, k)`, scattering one word `v` puts it on the diagonal and leaves the rest. -/
theorem scatter_eq {α : Type} (x : S4096x4096.Idx → α) (idx : IVec S4096x2 32) (upd : S4096.Idx → α) (v : α) (hu : ∀ k, upd k = v)
    (h : ∀ (k : Fin 4096) (q : Fin 2), (idx (ix2 k q)).toInt = k.val) (a b : Fin 4096) :
    Host.scatter dims (fun _ b => b) x idx upd (ix2 a b) = if a = b then v else x (ix2 a b) := by
  have lands : ∀ k : Fin 4096, dims.resultIdx? (ix1 k) idx = some (ix2 a b) ↔ k = a ∧ k = b := fun k => by
    rw [resultIdx?_eq_some]
    constructor
    · intro e
      have e0 := e 0
      have e1 := e 1
      rw [start_eq, window_eq, h] at e0 e1
      change (k.val : Int) + (0 : Nat) = (a.val : Int) at e0
      change (k.val : Int) + (0 : Nat) = (b.val : Int) at e1
      exact ⟨Fin.ext (by omega), Fin.ext (by omega)⟩
    · rintro ⟨rfl, rfl⟩ q
      rw [start_eq, window_eq, h]
      fin_cases q <;> simp
  by_cases e : a = b
  · rw [if_pos e]
    exact scatter_set_hit dims x idx upd _ v (fun k _ => hu k) (ix1 a) ((lands a).2 ⟨rfl, e⟩)
  · rw [if_neg e]
    refine scatter_set_miss dims x idx upd _ fun k hk => ?_
    obtain ⟨k, rfl⟩ : ∃ k' : Fin 4096, k = ix1 k' := ⟨k 0, eq_ix1 k⟩
    exact e (((lands k).1 hk).1.symm.trans ((lands k).1 hk).2)

end Cert.Diagonal
-- ==== Proof.Score.lean ====
/- What the reference computes from the coordinates and the charges: the sum of the energies of all pairs `a < b`. -/
module

public import proofs.«01_k».proof.Proof.Diagonal
public import proofs.«01_k».proof.Proof.Energy
public import Idealize.ShloMosaic.Lib.WordCmp

@[expose] public section

set_option maxRecDepth 16384

noncomputable section

namespace Cert.Score

open Idealize.ShloMosaic Idealize.ShloMosaic.StableHlo Cert.Energy
open Cert.ReferenceIdeal Cert.ReferenceIdeal.Value Cert.ReferenceIdeal.Facts₀

variable (V : Valuation τ sig (Elt Ideal))

/-- The positions of the atoms in the reference. -/
def pos (a : Fin 4096) (k : Fin 3) : EReal := res_main_v346 V (ix2 a k)

/-- The charges of the atoms in the reference. -/
def charge (a : Fin 4096) : EReal := V (Proc.devRef .tc main_arg3) (ix1 a)

/-- The reference's squared lengths. -/
theorem len_eq (a : Fin 4096) : res_main_v348 V (ix1 a) = len (pos V a) := by
  unfold len pos
  pointwise [res_main_v348]

/-- The reference's squared distances, kept above a small constant. -/
theorem gap_eq (a b : Fin 4096) : res_main_v359 V (ix2 a b) = gap (pos V a) (pos V b) := by
  unfold gap dot
  rw [← len_eq, ← len_eq, max_comm]
  unfold pos
  pointwise [res_main_v359]
  rfl

/-- The reference's scaled inverses of the squared distances. -/
theorem ratio_eq (a b : Fin 4096) : res_main_v363 V (ix2 a b) = ratio (pos V a) (pos V b) := by
  unfold ratio
  rw [← gap_eq]
  pointwise [res_main_v363]

/-- The reference's index of a diagonal place: the number itself, which is not negative and so is not wrapped. -/
theorem index_eq (k : Fin 4096) :
    (Scalar.select (IntOp.cmpi .slt (BitVec.ofNat 32 k.val) 0#32) (IntOp.addi (BitVec.ofNat 32 k.val) 4096#32) (BitVec.ofNat 32 k.val)).toInt = k.val := by
  have hk := k.isLt
  rw [Routing.wrap_of_lt _ _ (by rw [BitVec.toNat_ofNat]; omega), WordCmp.toInt_ofNat_of_lt (by omega)]

/-- Half the sum of a table, as the reference's last operations form it. -/
theorem half_sum (t : FVec Ideal S4096x4096 .f32) (i : S1x1.Idx) :
    shapeCast S1x1 (mulf (constant (F := Ideal) S_ .f32 0x3F000000#32)
      (Host.reduceAdd t (constant S_ .f32 0x00000000#32) reducesTo_S4096x4096_S_d0_1 h_S_)) shapeCasts_S_S1x1 i
      = Ideal.ofBits .f32 0x3F000000#32 * ∑ a, ∑ b, t (ix2 a b) := by
  pointwise []

/-- The sum off the diagonal of the table of energies, halved: the sum above the diagonal. -/
theorem half_off_diagonal (p : Fin 4096 → Fin 3 → EReal) (q : Fin 4096 → EReal) :
    Ideal.ofBits .f32 0x3F000000#32 * (∑ a : Fin 4096, ∑ b : Fin 4096, if a = b then 0 else energy (p a) (q a) (p b) (q b))
      = upper 4096 (table p q) := by
  have e : (∑ a : Fin 4096, ∑ b : Fin 4096, if a = b then 0 else energy (p a) (q a) (p b) (q b))
      = ∑ a ∈ Finset.range 4096, ∑ b ∈ Finset.range 4096, if a = b then 0 else table p q a b := by
    rw [← Fin.sum_univ_eq_sum_range fun a => ∑ b ∈ Finset.range 4096, if a = b then 0 else table p q a b]
    refine Finset.sum_congr rfl fun a _ => ?_
    rw [← Fin.sum_univ_eq_sum_range fun b => if a.val = b then 0 else table p q a.val b]
    refine Finset.sum_congr rfl fun b _ => ?_
    unfold table
    rw [Fin.ofNat_val_eq_self, Fin.ofNat_val_eq_self]
    exact if_congr Fin.ext_iff rfl rfl
  rw [e, off_diagonal 4096 (table p q) fun a b => energy_comm _ _ _ _, half_double]

/-- The reference's result: the sum of the energies of all pairs `a < b`. -/
theorem result_eq (i : S1x1.Idx) : val8 V (Proc.devRef .tc main_v398) i = upper 4096 (table (pos V) (charge V)) := by
  rw [val8_main_v398, ← half_off_diagonal]
  refine (half_sum _ i).trans (congrArg (_ * ·) (Finset.sum_congr rfl fun a _ => Finset.sum_congr rfl fun b _ => ?_))
  refine (Diagonal.scatter_eq _ _ _ 0 (fun k => ?_) (fun k l => ?_) a b).trans (if_congr Iff.rfl rfl ?_)
  · pointwise []
  · refine Eq.trans ?_ (index_eq k)
    fin_cases l
    · pointwise [res_main_v380]
    · pointwise [res_main_v380]
  · unfold energy cube charge
    rw [← ratio_eq, ← gap_eq]
    pointwise [res_main_v364]
    simp only [mul_assoc]

end Cert.Score
-- ==== Proof.Join.lean ====
/- The two programs' results are equal when their arguments are. -/
module

public import proofs.«01_k».proof.Proof.Layout
public import proofs.«01_k».proof.Proof.Score

@[expose] public section

set_option maxRecDepth 16384

noncomputable section

namespace Cert.Join

open Idealize.ShloMosaic Idealize.ShloMosaic.TcCoe Idealize.ShloMosaic.StableHlo Idealize.SL.Sem
open Cert.Lockstep Cert.Front Cert.Energy

/-- Before its last stretch the reference holds the coordinates under their name. -/
theorem reference_coordinates (V' : Valuation ReferenceIdeal.τ ReferenceIdeal.sig (Elt Ideal)) :
    ReferenceIdeal.Value.val7 V' (Proc.devRef .tc ReferenceIdeal.main_v346) = ReferenceIdeal.Value.res_main_v346 V' := by
  rw [ReferenceIdeal.Value.val7_keep V' ReferenceIdeal.main_v346 (by decide)]
  unfold ReferenceIdeal.Value.val6_2
  simp only [ReferenceIdeal.Value.ops_part6_1, TRef.unary, TRef.toBuf, TRef.ofBuf, cast_eq]
  after_results_simp
  simp only [ReferenceIdeal.Value.val6_1_main_cst_51, ReferenceIdeal.Value.val6_1_main_v322, ReferenceIdeal.Value.val6_1_main_v335,
    ReferenceIdeal.Value.val6_1_main_arg6, ReferenceIdeal.Value.val6_1_main_arg2]
  rfl

/-- The first part of the score leaves the coordinates and the charges as they were. -/
theorem referenceTail_keeps (W' : Valuation ReferenceIdeal.τ ReferenceIdeal.sig (Elt Ideal)) :
    after referenceTail W' (Proc.devRef .tc ReferenceIdeal.main_v346) = W' (Proc.devRef .tc ReferenceIdeal.main_v346)
    ∧ after referenceTail W' (Proc.devRef .tc ReferenceIdeal.main_arg3) = W' (Proc.devRef .tc ReferenceIdeal.main_arg3) := by
  unfold referenceTail ReferenceIdeal.Value.ops_part6
  simp only [List.cons_append, List.nil_append, List.drop_succ_cons, List.drop_zero, TRef.unary, TRef.binary, TRef.toBuf, TRef.ofBuf, cast_eq]
  constructor
  · after_results_simp
  · after_results_simp

/-- The reference's memory before its last stretch, by its seven stretches. -/
theorem reference_stretches (V' : Valuation ReferenceIdeal.τ ReferenceIdeal.sig (Elt Ideal)) :
    after (ReferenceIdeal.Value.ops_part0 ++ (ReferenceIdeal.Value.ops_part1 ++ (ReferenceIdeal.Value.ops_part2 ++
      (ReferenceIdeal.Value.ops_part3 ++ (ReferenceIdeal.Value.ops_part4 ++ (ReferenceIdeal.Value.ops_part5 ++
        ReferenceIdeal.Value.ops_part6)))))) V' = ReferenceIdeal.Value.val7 V' := by
  simp only [ReferenceIdeal.Value.ops_part6, after_append]
  rfl

/-- The kernel's host operations before the grid, by its seven stretches. -/
theorem kernel_stretches : (KernelIdeal.Gen.hostOps0 : List (HloOp KernelIdeal.τ KernelIdeal.sig (Elt Ideal))) =
    KernelIdeal.Gen.main_part0_ops0 ++ (KernelIdeal.Gen.main_part1_ops0 ++ (KernelIdeal.Gen.main_part2_ops0 ++
      (KernelIdeal.Gen.main_part3_ops0 ++ (KernelIdeal.Gen.main_part4_ops0 ++ (KernelIdeal.Gen.main_part5_ops0 ++
        KernelIdeal.Gen.main_part6_ops0))))) := rfl

variable (m : (ℓ : Loc KernelIdeal.nD KernelIdeal.τ KernelIdeal.sig) → Buf (Elt Ideal) ℓ) (c : Dev KernelIdeal.nD)
  (V' : Valuation ReferenceIdeal.τ ReferenceIdeal.sig (Elt Ideal))

/-- From memories that agree on the arguments: what the kernel's grid leaves is the reference's result. -/
theorem results_eq (h : Agree 7 (fun b : DevRef KernelIdeal.τ KernelIdeal.sig => m (c, b)) V') :
    (KernelIdeal.Gen.dats m 0 c).arrAt 4 KernelIdeal.cfg0.N
      = (ReferenceIdeal.Value.val8 V' (Proc.devRef .tc ReferenceIdeal.main_v398) :) := by
  obtain ⟨W, W', hW, hk, hr⟩ := runs (F := Ideal) _ V' h
  rw [← kernel_stretches] at hk
  rw [reference_stretches] at hr
  have hin := Layout.inputs W m c fun b => congrFun hk b
  have hp : (fun a k => W (KernelIdeal.main_v346 : DevRef KernelIdeal.τ KernelIdeal.sig) (ix2 a k)) = Score.pos V' := by
    have e := eq_of_heq (hW KernelIdeal.main_v346 ReferenceIdeal.main_v346 ⟨rfl, rfl, rfl⟩ (by decide))
    have e' := (congrFun hr (Proc.devRef .tc ReferenceIdeal.main_v346)).trans (referenceTail_keeps W').1
    rw [reference_coordinates] at e'
    funext a k
    exact congrFun (e.trans e'.symm) (ix2 a k)
  have hq : (fun a => W (KernelIdeal.main_arg3 : DevRef KernelIdeal.τ KernelIdeal.sig) (ix1 a)) = Score.charge V' := by
    have e := eq_of_heq (hW KernelIdeal.main_arg3 ReferenceIdeal.main_arg3 ⟨rfl, rfl, rfl⟩ (by decide))
    have e' := (congrFun hr (Proc.devRef .tc ReferenceIdeal.main_arg3)).trans (referenceTail_keeps W').2
    rw [ReferenceIdeal.Value.val7_main_arg3] at e'
    funext a
    exact congrFun (e.trans e'.symm) (ix1 a)
  rw [hp, hq] at hin
  rw [Point.final hin]
  funext i
  exact (Score.result_eq V' i).symm

end Cert.Join
-- ==== Proof.Claims.lean ====
/- The claims: each program's frame, and the equality of the two results. -/
module

public import proofs.«01_k».proof.Defs
public import proofs.«01_k».proof.Proof.Join
public import proofs.«01_k».proof.Proof.Gen.Kernel.Frame
public import proofs.«01_k».proof.Proof.Gen.KernelIdeal.Value
public import Idealize.ShloMosaic.Lib.Claim

@[expose] public section

set_option maxRecDepth 16384

noncomputable section

namespace Cert.Claims

open Idealize.ShloMosaic Idealize.ShloMosaic.TcCoe Idealize.ShloMosaic.StableHlo Idealize.SL.Sem
open Cert.Lockstep

/-- A tensor value below position 7 is one of the kernel's seven arguments, and its partner is the reference's argument of the same number. -/
theorem paired_args {x : Ref KernelIdeal.sig .tc} {x' : Ref ReferenceIdeal.sig .tc} (h : Paired x x') (hx : x.idx.val < 7) :
    (x = KernelIdeal.main_arg0 ∧ x' = ReferenceIdeal.main_arg0) ∨ (x = KernelIdeal.main_arg1 ∧ x' = ReferenceIdeal.main_arg1)
    ∨ (x = KernelIdeal.main_arg2 ∧ x' = ReferenceIdeal.main_arg2) ∨ (x = KernelIdeal.main_arg3 ∧ x' = ReferenceIdeal.main_arg3)
    ∨ (x = KernelIdeal.main_arg4 ∧ x' = ReferenceIdeal.main_arg4) ∨ (x = KernelIdeal.main_arg5 ∧ x' = ReferenceIdeal.main_arg5)
    ∨ (x = KernelIdeal.main_arg6 ∧ x' = ReferenceIdeal.main_arg6) := by
  obtain ⟨hs, hs', he⟩ := h
  have key : ∀ (y : Ref KernelIdeal.sig .tc) (y' : Ref ReferenceIdeal.sig .tc), Paired y y' → x.idx.val = y.idx.val → x = y ∧ x' = y' :=
    fun y y' hy e => ⟨ref_eq hs hy.1 e, ref_eq hs' hy.2.1 ((he.symm.trans e).trans hy.2.2)⟩
  have hcases : x.idx.val = 0 ∨ x.idx.val = 1 ∨ x.idx.val = 2 ∨ x.idx.val = 3 ∨ x.idx.val = 4 ∨ x.idx.val = 5 ∨ x.idx.val = 6 := by omega
  exact hcases.imp (key _ _ ⟨rfl, rfl, rfl⟩) <| Or.imp (key _ _ ⟨rfl, rfl, rfl⟩) <| Or.imp (key _ _ ⟨rfl, rfl, rfl⟩) <|
    Or.imp (key _ _ ⟨rfl, rfl, rfl⟩) <| Or.imp (key _ _ ⟨rfl, rfl, rfl⟩) <| Or.imp (key _ _ ⟨rfl, rfl, rfl⟩) (key _ _ ⟨rfl, rfl, rfl⟩)

/-- The kernel runs, leaves its arguments as they were and its counters at zero. -/
theorem kernel_frame : Cert.quiescent_Kernel (hKernel := Cert.Kernel.Gen.facts) := fun m g _ => Cert.Kernel.Gen.frame m g

/-- The kernel over the extended reals runs, leaves its arguments as they were and its counters at zero. -/
theorem kernelIdeal_frame : Cert.quiescent_KernelIdeal (hKernelIdeal := Cert.KernelIdeal.Gen.facts) :=
  fun m g _ => Cert.KernelIdeal.Gen.frame m g

/-- The reference runs and leaves its arguments as they were; it declares no counter. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- From equal arguments the two programs end with equal results. -/
theorem equal_results : Cert.algebraic_KernelIdeal_ReferenceIdeal (hKernelIdeal := Cert.KernelIdeal.Gen.facts)
    (hReferenceIdeal := Cert.ReferenceIdeal.Gen.facts) := by
  intro m g m' g' _ hagree
  refine ⟨fun c => (Cert.KernelIdeal.Gen.dats m 0 c).arrAt 4 Cert.KernelIdeal.cfg0.N, Cert.KernelIdeal.Value.run_blocks m g, ?_⟩
  refine (θ_run Cert.ReferenceIdeal.defs _ _).mono (fun r h c => ⟨(h c).1.trans ?_, (h c).2⟩)
    (Cert.ReferenceIdeal.Value.run (F := Ideal) m' g')
  rw [← Cert.ReferenceIdeal.Value.val8_main_v398]
  refine (Join.results_eq m c (launchContents m' c) fun x x' hp hx => ?_).symm
  obtain ⟨h0, h1, h2, h3, h4, h5, h6⟩ := hagree c
  rcases paired_args hp hx with ⟨rfl, rfl⟩ | ⟨rfl, rfl⟩ | ⟨rfl, rfl⟩ | ⟨rfl, rfl⟩ | ⟨rfl, rfl⟩ | ⟨rfl, rfl⟩ | ⟨rfl, rfl⟩
  all_goals first
    | exact heq_of_eq h0.symm | exact heq_of_eq h1.symm | exact heq_of_eq h2.symm | exact heq_of_eq h3.symm
    | exact heq_of_eq h4.symm | exact heq_of_eq h5.symm | exact heq_of_eq h6.symm

end Cert.Claims
-- ==== Proof.lean ====
/- The proof of the claims: the frames of the three programs, and the equality of the kernel's result with the reference's
   over the extended reals. The parts are in Proof/. -/
module

public import proofs.«01_k».proof.Defs
public import proofs.«01_k».proof.Proof.Claims

@[expose] public section

namespace Cert.Proof

/-- Every claim: three frames, the idealization, and equal results. -/
theorem claim : Cert.Claim :=
  ⟨Cert.Kernel.Gen.facts, Cert.KernelIdeal.Gen.facts, Cert.ReferenceIdeal.Gen.facts, Claims.kernel_frame, Claims.kernelIdeal_frame,
    Claims.reference_frame, trivial, Claims.equal_results⟩

end Cert.Proof
